-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S524288x256 : Shape := ⟨2, ![524288, 256]⟩
abbrev S524288 : Shape := ⟨1, ![524288]⟩
abbrev S16384 : Shape := ⟨1, ![16384]⟩
abbrev S_ : Shape := ⟨0, ![]⟩
abbrev S16 : Shape := ⟨1, ![16]⟩
abbrev S524288x1 : Shape := ⟨2, ![524288, 1]⟩
abbrev S8192x256 : Shape := ⟨2, ![8192, 256]⟩
abbrev S8192x1 : Shape := ⟨2, ![8192, 1]⟩
abbrev S8192 : Shape := ⟨1, ![8192]⟩
abbrev S256x1 : Shape := ⟨2, ![256, 1]⟩

abbrev nBuf : Table → Nat
  | .hbm => 6
  | .local .tc .vmem => 6
  | .local .scVector .vmem => 2
  | _ => 0

abbrev bufTy : (tb : Table) → Fin (nBuf tb) → BufTy
  | .hbm, ⟨0, _⟩ => ⟨S524288x256, .f32⟩
  | .hbm, ⟨1, _⟩ => ⟨S524288, .f32⟩
  | .hbm, ⟨2, _⟩ => ⟨S524288, .i32⟩
  | .hbm, ⟨3, _⟩ => ⟨S524288x1, .i32⟩
  | .hbm, ⟨4, _⟩ => ⟨S524288x1, .f32⟩
  | .hbm, ⟨5, _⟩ => ⟨S524288, .f32⟩
  | .local .tc .vmem, ⟨0, _⟩ => ⟨S8192x256, .f32⟩
  | .local .tc .vmem, ⟨1, _⟩ => ⟨S8192x256, .f32⟩
  | .local .tc .vmem, ⟨2, _⟩ => ⟨S8192x1, .i32⟩
  | .local .tc .vmem, ⟨3, _⟩ => ⟨S8192x1, .i32⟩
  | .local .tc .vmem, ⟨4, _⟩ => ⟨S8192x1, .f32⟩
  | .local .tc .vmem, ⟨5, _⟩ => ⟨S8192x1, .f32⟩
  | .local .scVector .vmem, ⟨0, _⟩ => ⟨S16384, .f32⟩
  | .local .scVector .vmem, ⟨1, _⟩ => ⟨S16384, .i32⟩
  | _, _ => ⟨S524288x256, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => true
  | ⟨3, _⟩ => true
  | ⟨4, _⟩ => true
  | ⟨5, _⟩ => true
  | ⟨6, _⟩ => true
  | ⟨7, _⟩ => true
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_arg1_scv : Ref sig .scVector := ⟨.hbm, 1, rfl⟩
abbrev main_v0_scv : Ref sig .scVector := ⟨.hbm, 2, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc0_scratch0 : Ref sig .scVector := ⟨.vmem, 0, rfl⟩
abbrev cc0_scratch1 : Ref sig .scVector := ⟨.vmem, 1, rfl⟩
abbrev cc1_sem0_0 : DmaSem sig := 2
abbrev cc1_sem0_1 : DmaSem sig := 3
abbrev cc1_sem1_0 : DmaSem sig := 4
abbrev cc1_sem1_1 : DmaSem sig := 5
abbrev cc1_sem2_0 : DmaSem sig := 6
abbrev cc1_sem2_1 : DmaSem sig := 7
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16384_i32 : BitVec 32 := 16384#32
  let v2 : BitVec 32 := Scalar.muli v1 c16384_i32
  ![v2.toNat]
@[reducible] def k0_t1_loop : Scf.Loop 32 :=
  let c0_i32_1 : BitVec 32 := 0#32
  let c1024_i32 : BitVec 32 := 1024#32
  let v5 : BitVec 32 := Scalar.addi c0_i32_1 c1024_i32
  let c1_i32_2 : BitVec 32 := 1#32
  ⟨c0_i32_1, v5, c1_i32_2⟩
def k0_off2 (k0_t1 : Fin k0_t1_loop.trips) : Fin 1 → Nat :=
  let c0_i32_1 : BitVec 32 := 0#32
  let c1_i32_2 : BitVec 32 := 1#32
  let arg6 : BitVec 32 := Scf.iv c0_i32_1 c1_i32_2 k0_t1
  let c16_i32 : BitVec 32 := 16#32
  let v6 : BitVec 32 := Scalar.muli arg6 c16_i32
  let v7 : Index := Scalar.indexCast v6
  ![v7.toNat]
abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8192x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S524288x256 : Shape := ⟨2, ![524288, 256]⟩
abbrev S524288 : Shape := ⟨1, ![524288]⟩
abbrev S_ : Shape := ⟨0, ![]⟩
abbrev S256 : Shape := ⟨1, ![256]⟩
abbrev S1 : Shape := ⟨1, ![1]⟩
abbrev S257 : Shape := ⟨1, ![257]⟩
abbrev S524288x1 : Shape := ⟨2, ![524288, 1]⟩
abbrev S1x257 : Shape := ⟨2, ![1, 257]⟩
abbrev S524288x257 : Shape := ⟨2, ![524288, 257]⟩
abbrev S524288x1x1 : Shape := ⟨3, ![524288, 1, 1]⟩
abbrev S1x1x1 : Shape := ⟨3, ![1, 1, 1]⟩
abbrev S1x1 : Shape := ⟨2, ![1, 1]⟩

abbrev nBuf : Space → Nat
  | .hbm => 110
  | .vmem => 0
  | .smem => 0
  | _ => 0

abbrev bufTy : (tb : Table) → Fin (tcTables nBuf tb) → BufTy
  | .hbm, ⟨0, _⟩ => ⟨S524288x256, .f32⟩
  | .hbm, ⟨1, _⟩ => ⟨S524288, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S256, .f32⟩
  | .hbm, ⟨10, _⟩ => ⟨S_, .f32⟩
  | .hbm, ⟨11, _⟩ => ⟨S256, .f32⟩
  | .hbm, ⟨12, _⟩ => ⟨S256, .f32⟩
  | .hbm, ⟨13, _⟩ => ⟨S1, .f32⟩
  | .hbm, ⟨14, _⟩ => ⟨S_, .f32⟩
  | .hbm, ⟨15, _⟩ => ⟨S256, .f32⟩
  | .hbm, ⟨16, _⟩ => ⟨S256, .f32⟩
  | .hbm, ⟨17, _⟩ => ⟨S256, .f32⟩
  | .hbm, ⟨18, _⟩ => ⟨S256, .f32⟩
  | .hbm, ⟨19, _⟩ => ⟨S1, .f32⟩
  | .hbm, ⟨20, _⟩ => ⟨S256, .f32⟩
  | .hbm, ⟨21, _⟩ => ⟨S256, .f32⟩
  | .hbm, ⟨22, _⟩ => ⟨S256, .f32⟩
  | .hbm, ⟨23, _⟩ => ⟨S1, .f32⟩
  | .hbm, ⟨24, _⟩ => ⟨S257, .f32⟩
  | .hbm, ⟨25, _⟩ => ⟨S256, .f32⟩
  | .hbm, ⟨26, _⟩ => ⟨S256, .f32⟩
  | .hbm, ⟨27, _⟩ => ⟨S256, .f32⟩
  | .hbm, ⟨28, _⟩ => ⟨S_, .f32⟩
  | .hbm, ⟨29, _⟩ => ⟨S524288, .f32⟩
  | .hbm, ⟨30, _⟩ => ⟨S_, .f32⟩
  | .hbm, ⟨31, _⟩ => ⟨S524288, .f32⟩
  | .hbm, ⟨32, _⟩ => ⟨S524288, .f32⟩
  | .hbm, ⟨33, _⟩ => ⟨S524288x1, .f32⟩
  | .hbm, ⟨34, _⟩ => ⟨S524288x256, .f32⟩
  | .hbm, ⟨35, _⟩ => ⟨S524288x256, .f32⟩
  | .hbm, ⟨36, _⟩ => ⟨S524288x256, .f32⟩
  | .hbm, ⟨37, _⟩ => ⟨S_, .f32⟩
  | .hbm, ⟨38, _⟩ => ⟨S524288, .f32⟩
  | .hbm, ⟨39, _⟩ => ⟨S524288x1, .f32⟩
  | .hbm, ⟨40, _⟩ => ⟨S524288x1, .f32⟩
  | .hbm, ⟨41, _⟩ => ⟨S524288x256, .f32⟩
  | .hbm, ⟨42, _⟩ => ⟨S524288x256, .f32⟩
  | .hbm, ⟨43, _⟩ => ⟨S1x257, .f32⟩
  | .hbm, ⟨44, _⟩ => ⟨S524288x1, .f32⟩
  | .hbm, ⟨45, _⟩ => ⟨S524288x257, .f32⟩
  | .hbm, ⟨46, _⟩ => ⟨S524288x257, .f32⟩
  | .hbm, ⟨47, _⟩ => ⟨S524288x257, .i1⟩
  | .hbm, ⟨48, _⟩ => ⟨S524288x257, .i32⟩
  | .hbm, ⟨49, _⟩ => ⟨S_, .i32⟩
  | .hbm, ⟨50, _⟩ => ⟨S524288, .i32⟩
  | .hbm, ⟨51, _⟩ => ⟨S_, .i32⟩
  | .hbm, ⟨52, _⟩ => ⟨S524288, .i32⟩
  | .hbm, ⟨53, _⟩ => ⟨S524288, .i32⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S524288, .i32⟩
  | .hbm, ⟨58, _⟩ => ⟨S524288, .i32⟩
  | .hbm, ⟨59, _⟩ => ⟨S_, .i32⟩
  | .hbm, ⟨60, _⟩ => ⟨S524288, .i32⟩
  | .hbm, ⟨61, _⟩ => ⟨S524288, .i32⟩
  | .hbm, ⟨62, _⟩ => ⟨S524288x1, .i32⟩
  | .hbm, ⟨63, _⟩ => ⟨S_, .i32⟩
  | .hbm, ⟨64, _⟩ => ⟨S524288x1, .i32⟩
  | .hbm, ⟨65, _⟩ => ⟨S524288x1, .i1⟩
  | .hbm, ⟨66, _⟩ => ⟨S_, .i32⟩
  | .hbm, ⟨67, _⟩ => ⟨S524288x1, .i32⟩
  | .hbm, ⟨68, _⟩ => ⟨S524288x1, .i32⟩
  | .hbm, ⟨69, _⟩ => ⟨S524288x1, .i32⟩
  | .hbm, ⟨70, _⟩ => ⟨S524288x1x1, .i32⟩
  | .hbm, ⟨71, _⟩ => ⟨S1, .i32⟩
  | .hbm, ⟨72, _⟩ => ⟨S_, .i32⟩
  | .hbm, ⟨73, _⟩ => ⟨S524288x1x1, .i32⟩
  | .hbm, ⟨74, _⟩ => ⟨S524288x1x1, .i1⟩
  | .hbm, ⟨75, _⟩ => ⟨S1x1x1, .i32⟩
  | .hbm, ⟨76, _⟩ => ⟨S524288x1x1, .i32⟩
  | .hbm, ⟨77, _⟩ => ⟨S524288x1x1, .i1⟩
  | .hbm, ⟨78, _⟩ => ⟨S524288x1x1, .i1⟩
  | .hbm, ⟨79, _⟩ => ⟨S_, .i1⟩
  | .hbm, ⟨80, _⟩ => ⟨S524288x1, .i1⟩
  | .hbm, ⟨81, _⟩ => ⟨S524288x1, .f32⟩
  | .hbm, ⟨82, _⟩ => ⟨S_, .f32⟩
  | .hbm, ⟨83, _⟩ => ⟨S524288x1, .f32⟩
  | .hbm, ⟨84, _⟩ => ⟨S524288x1, .f32⟩
  | .hbm, ⟨85, _⟩ => ⟨S524288, .f32⟩
  | .hbm, ⟨86, _⟩ => ⟨S_, .i32⟩
  | .hbm, ⟨87, _⟩ => ⟨S524288, .i32⟩
  | .hbm, ⟨88, _⟩ => ⟨S524288, .i1⟩
  | .hbm, ⟨89, _⟩ => ⟨S_, .i32⟩
  | .hbm, ⟨90, _⟩ => ⟨S524288, .i32⟩
  | .hbm, ⟨91, _⟩ => ⟨S524288, .i32⟩
  | .hbm, ⟨92, _⟩ => ⟨S524288, .i32⟩
  | .hbm, ⟨93, _⟩ => ⟨S524288x1, .i32⟩
  | .hbm, ⟨94, _⟩ => ⟨S1, .i32⟩
  | .hbm, ⟨95, _⟩ => ⟨S_, .i32⟩
  | .hbm, ⟨96, _⟩ => ⟨S524288x1, .i32⟩
  | .hbm, ⟨97, _⟩ => ⟨S524288x1, .i1⟩
  | .hbm, ⟨98, _⟩ => ⟨S1x1, .i32⟩
  | .hbm, ⟨99, _⟩ => ⟨S524288x1, .i32⟩
  | .hbm, ⟨100, _⟩ => ⟨S524288x1, .i1⟩
  | .hbm, ⟨101, _⟩ => ⟨S524288x1, .i1⟩
  | .hbm, ⟨102, _⟩ => ⟨S_, .i1⟩
  | .hbm, ⟨103, _⟩ => ⟨S524288, .i1⟩
  | .hbm, ⟨104, _⟩ => ⟨S524288, .f32⟩
  | .hbm, ⟨105, _⟩ => ⟨S_, .f32⟩
  | .hbm, ⟨106, _⟩ => ⟨S524288, .f32⟩
  | .hbm, ⟨107, _⟩ => ⟨S524288, .f32⟩
  | .hbm, ⟨108, _⟩ => ⟨S524288, .f32⟩
  | .hbm, ⟨109, _⟩ => ⟨S524288, .f32⟩
  | _, _ => ⟨S524288x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_cst : Ref sig .tc := ⟨.hbm, 7, rfl⟩
abbrev main_call0_v3 : Ref sig .tc := ⟨.hbm, 8, rfl⟩
abbrev main_call0_v4 : Ref sig .tc := ⟨.hbm, 9, rfl⟩
abbrev main_call0_cst_0 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_cst_1 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_v15 : Ref sig .tc := ⟨.hbm, 22, rfl⟩
abbrev main_call0_v16 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_call1_cst : Ref sig .tc := ⟨.hbm, 28, rfl⟩
abbrev main_call1_v0 : Ref sig .tc := ⟨.hbm, 29, rfl⟩
abbrev main_call1_cst_0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_cst_1 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_v4 : Ref sig .tc := ⟨.hbm, 42, rfl⟩
abbrev main_v5 : Ref sig .tc := ⟨.hbm, 43, rfl⟩
abbrev main_v6 : Ref sig .tc := ⟨.hbm, 44, rfl⟩
abbrev main_v7 : Ref sig .tc := ⟨.hbm, 45, rfl⟩
abbrev main_v8 : Ref sig .tc := ⟨.hbm, 46, rfl⟩
abbrev main_v9 : Ref sig .tc := ⟨.hbm, 47, rfl⟩
abbrev main_v10 : Ref sig .tc := ⟨.hbm, 48, rfl⟩
abbrev main_c : Ref sig .tc := ⟨.hbm, 49, rfl⟩
abbrev main_v11 : Ref sig .tc := ⟨.hbm, 50, rfl⟩
abbrev main_c_1 : Ref sig .tc := ⟨.hbm, 51, rfl⟩
abbrev main_v12 : Ref sig .tc := ⟨.hbm, 52, rfl⟩
abbrev main_v13 : Ref sig .tc := ⟨.hbm, 53, rfl⟩
abbrev main_c_2 : Ref sig .tc := ⟨.hbm, 54, rfl⟩
abbrev main_c_3 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_v14 : Ref sig .tc := ⟨.hbm, 61, rfl⟩
abbrev main_v15 : Ref sig .tc := ⟨.hbm, 62, rfl⟩
abbrev main_call3_c : Ref sig .tc := ⟨.hbm, 63, rfl⟩
abbrev main_call3_v0 : Ref sig .tc := ⟨.hbm, 64, rfl⟩
abbrev main_call3_v1 : Ref sig .tc := ⟨.hbm, 65, rfl⟩
abbrev main_call3_c_0 : Ref sig .tc := ⟨.hbm, 66, rfl⟩
abbrev main_call3_v2 : Ref sig .tc := ⟨.hbm, 67, rfl⟩
abbrev main_call3_v3 : Ref sig .tc := ⟨.hbm, 68, rfl⟩
abbrev main_call3_v4 : Ref sig .tc := ⟨.hbm, 69, rfl⟩
abbrev main_call3_v5 : Ref sig .tc := ⟨.hbm, 70, rfl⟩
abbrev main_call3_c_1 : Ref sig .tc := ⟨.hbm, 71, rfl⟩
abbrev main_call3_c_2 : Ref sig .tc := ⟨.hbm, 72, rfl⟩
abbrev main_call3_v6 : Ref sig .tc := ⟨.hbm, 73, rfl⟩
abbrev main_call3_v7 : Ref sig .tc := ⟨.hbm, 74, rfl⟩
abbrev main_call3_v8 : Ref sig .tc := ⟨.hbm, 75, rfl⟩
abbrev main_call3_v9 : Ref sig .tc := ⟨.hbm, 76, rfl⟩
abbrev main_call3_v10 : Ref sig .tc := ⟨.hbm, 77, rfl⟩
abbrev main_call3_v11 : Ref sig .tc := ⟨.hbm, 78, rfl⟩
abbrev main_call3_c_3 : Ref sig .tc := ⟨.hbm, 79, rfl⟩
abbrev main_call3_v12 : Ref sig .tc := ⟨.hbm, 80, rfl⟩
abbrev main_call3_v13 : Ref sig .tc := ⟨.hbm, 81, rfl⟩
abbrev main_call3_cst : Ref sig .tc := ⟨.hbm, 82, rfl⟩
abbrev main_call3_v14 : Ref sig .tc := ⟨.hbm, 83, rfl⟩
abbrev main_v16 : Ref sig .tc := ⟨.hbm, 84, rfl⟩
abbrev main_v17 : Ref sig .tc := ⟨.hbm, 85, rfl⟩
abbrev main_call4_c : Ref sig .tc := ⟨.hbm, 86, rfl⟩
abbrev main_call4_v0 : Ref sig .tc := ⟨.hbm, 87, rfl⟩
abbrev main_call4_v1 : Ref sig .tc := ⟨.hbm, 88, rfl⟩
abbrev main_call4_c_0 : Ref sig .tc := ⟨.hbm, 89, rfl⟩
abbrev main_call4_v2 : Ref sig .tc := ⟨.hbm, 90, rfl⟩
abbrev main_call4_v3 : Ref sig .tc := ⟨.hbm, 91, rfl⟩
abbrev main_call4_v4 : Ref sig .tc := ⟨.hbm, 92, rfl⟩
abbrev main_call4_v5 : Ref sig .tc := ⟨.hbm, 93, rfl⟩
abbrev main_call4_c_1 : Ref sig .tc := ⟨.hbm, 94, rfl⟩
abbrev main_call4_c_2 : Ref sig .tc := ⟨.hbm, 95, rfl⟩
abbrev main_call4_v6 : Ref sig .tc := ⟨.hbm, 96, rfl⟩
abbrev main_call4_v7 : Ref sig .tc := ⟨.hbm, 97, rfl⟩
abbrev main_call4_v8 : Ref sig .tc := ⟨.hbm, 98, rfl⟩
abbrev main_call4_v9 : Ref sig .tc := ⟨.hbm, 99, rfl⟩
abbrev main_call4_v10 : Ref sig .tc := ⟨.hbm, 100, rfl⟩
abbrev main_call4_v11 : Ref sig .tc := ⟨.hbm, 101, rfl⟩
abbrev main_call4_c_3 : Ref sig .tc := ⟨.hbm, 102, rfl⟩
abbrev main_call4_v12 : Ref sig .tc := ⟨.hbm, 103, rfl⟩
abbrev main_call4_v13 : Ref sig .tc := ⟨.hbm, 104, rfl⟩
abbrev main_call4_cst : Ref sig .tc := ⟨.hbm, 105, rfl⟩
abbrev main_call4_v14 : Ref sig .tc := ⟨.hbm, 106, rfl⟩
abbrev main_v18 : Ref sig .tc := ⟨.hbm, 107, rfl⟩
abbrev main_v19 : Ref sig .tc := ⟨.hbm, 108, rfl⟩
abbrev main_v20 : Ref sig .tc := ⟨.hbm, 109, rfl⟩

abbrev nD : Nat := 1
abbrev τ : Topo := Topo.v7x

variable {F : FTy → Type} [FloatOps F]
-- ==== Proof.Same.lean ====
/-
  The kernel and the ideal kernel are one text: their body tables are equal over any float values.
-/
module

public import proofs.«01_k».proof.Proof.Gen.Kernel
public import proofs.«01_k».proof.Proof.Gen.KernelIdeal

@[expose] public section

namespace Cert.Proof
open Idealize.ShloMosaic

variable {F : FTy → Type} [FloatOps F]

/-- The kernels' own bodies, label by label on each kind of processor. -/
theorem defs₀_eq : Cert.Kernel.defs₀ (F := F) = Cert.KernelIdeal.defs₀ := by
  funext p ℓ a
  cases p with
  | tc =>
    match ℓ, a with
    | ⟨0, _⟩, _ => rfl
    | ⟨1, _⟩, (_, _) => rfl
  | scScalar c =>
    match ℓ, a with
    | ⟨0, _⟩, _ => rfl
    | ⟨1, _⟩, _ => rfl
  | scVector c s =>
    match ℓ, a with
    | ⟨0, _⟩, _ => rfl
    | ⟨1, _⟩, _ => rfl

/-- The whole body tables. -/
theorem defs_eq : Cert.Kernel.defs (F := F) = Cert.KernelIdeal.defs := by
  unfold Cert.Kernel.defs Cert.KernelIdeal.defs
  rw [defs₀_eq]
  rfl

end Cert.Proof

end
-- ==== Proof.Sc.lean ====
/-
  The SparseCore half of the kernel: on each of the 32 vector subcores a slice of 16384 values is copied in, a counted
  loop of 1024 trips turns sixteen values at a time into sixteen bucket numbers, and the slice of bucket numbers is
  copied out. The task is run once, at a symbolic pair of SparseCore and tile; its loop carries the values the trips so
  far have stored.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Value
public import Idealize.ShloMosaic.Lib.Writes
public import Idealize.ShloMosaic.Lib.Tactic
public import proofs.«01_k».proof.Proof.Gen.KernelIdeal
public import proofs.«01_k».proof.Proof.Gen.KernelIdeal.Skeleton

@[expose] public section

set_option maxRecDepth 16384

noncomputable section

namespace Cert.Proof.Buckets

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem reads it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The four handshake semaphores are distinct from one another, none is scoped, and no buffer is shared by a
    SparseCore's tasks. -/
theorem handshakes : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

/-! ## The resources: the launch's handshakes, the grid pipeline's cells, the local copies' counters -/

abbrev UH : Type := URounds (GSem nD τ sig) ℕ
abbrev UL : Type := URounds (GSem nD τ sig) Unit × Counters
abbrev UU : Type := UH × UL

local notation "𝕄" => MT nD τ sig (HIx 1) (Elt F) ℕ UU ℕ

def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
def EP : Emb (URounds (GSem nD τ sig) Unit) (MT nD τ sig (HIx 1) (Elt F) ℕ UU ℕ) :=
  ((Emb.inl : Emb (URounds (GSem nD τ sig) Unit) UL).trans (Emb.inr : Emb UL UU)).trans
    (uEmb (nD := nD) (sig := sig) (Ix := HIx 1) (Val := Elt F) (Name := ℕ) (U := UU) (Lvl := ℕ)).toEmb

instance EH_landsIn : (EH : Emb UH 𝕄).LandsIn (upEmb : UEmb _ 𝕄) := by unfold EH; infer_instance
instance EP_landsIn : (EP : Emb (URounds (GSem nD τ sig) Unit) 𝕄).LandsIn (upEmb : UEmb _ 𝕄) := by unfold EP; infer_instance

/-! ## The buffers and the slices -/

variable (m : (ℓ : Loc nD τ sig) → Buf (Elt F) ℓ)

/-- The values (an argument) and the bucket numbers, as locations of device `d`. -/
abbrev vLoc (d : Dev nD) : Loc nD τ sig := (SparseCore.T d).loc main_arg1
abbrev kLoc (d : Dev nD) : Loc nD τ sig := (SparseCore.T d).loc main_v0

abbrev vM : Memref sig .scVector .hbm S524288 .f32 := Memref.whole main_arg1_scv
abbrev kM : Memref sig .scVector .hbm S524288 .i32 := Memref.whole main_v0_scv
/-- A task's scratch: the fetched values, the bucket numbers it computes. -/
abbrev sVal : Memref sig .scVector .vmem S16384 .f32 := Memref.whole cc0_scratch0
abbrev sIdx : Memref sig .scVector .vmem S16384 .i32 := Memref.whole cc0_scratch1

abbrev rK (L : grid0.Coords) : Rect S524288 := Rect.unit (s := S524288) (k0_off1 L) S16384.size (k0_off1_inb L)
abbrev vK (L : grid0.Coords) : Memref sig .scVector .hbm S16384 .f32 := vM.slice (rK L) (fun _ => rfl)
abbrev kK (L : grid0.Coords) : Memref sig .scVector .hbm S16384 .i32 := kM.slice (rK L) (fun _ => rfl)

/-- The elements of the slice that the task at `L` works on. -/
abbrev piece (L : grid0.Coords) : Finset S524288.Idx := (rK L).set

theorem set_vK (L : grid0.Coords) : (vK L).view.set = piece L := by
  show ((View.whole (main_arg1_scv : Ref sig .scVector)).slice (rK L)).set = _
  rw [View.set_slice]; exact Finset.map_refl
theorem set_kK (L : grid0.Coords) : (kK L).view.set = piece L := by
  show ((View.whole (main_v0_scv : Ref sig .scVector)).slice (rK L)).set = _
  rw [View.set_slice]; exact Finset.map_refl

/-! ## The bucket of one value -/

section Lane
variable [FloatOps F]

/-- The bucket number the kernel computes for one value: what its sixteen-lane computation does in a lane. -/
def bk (x : F .f32) : BitVec 32 := k0_pay1 (F := F) (fun _ => x) (fun a => ⟨0, by fin_cases a; decide⟩)

/-- The sixteen-lane computation acts lane by lane. -/
theorem pay_lane (v : Vec F S16 .f32) (j : S16.Idx) : k0_pay1 v j = bk (v j) := by
  unfold bk k0_pay1
  simp only [shapeCast_self]
  rfl

/-- The bucket numbers of a whole array of values. -/
def buckets (x : S524288.Idx → F .f32) : S524288.Idx → BitVec 32 := fun j => bk (x j)

end Lane

variable [FloatOps F]

/-! ## What the handshakes carry -/

abbrev vPc (d : Dev nD) (L : grid0.Coords) : sProp 𝕄 := vLoc d ↦[piece L]{fullShare} m (vLoc d)
abbrev kPc (d : Dev nD) (L : grid0.Coords) (f : Buf (Elt F) (kLoc d)) : sProp 𝕄 := kLoc d ↦[piece L]{fullShare} f

/-- The array of bucket numbers of the values at launch, as the contents of the kernel's buffer. -/
def kOut (d : Dev nD) : Buf (Elt F) (kLoc d) := buckets (F := F) (m (vLoc d))

def coordsV (c : Fin (grid0.bound 0)) (s : Fin (grid0.bound 1)) : grid0.Coords :=
  fun | 0 => c | 1 => s | ⟨_ + 2, h⟩ => absurd h (Nat.not_lt.2 (Nat.le_add_left _ _))

/-- The one call hands each task its slice of the values and of the bucket numbers, and brings both back, the bucket
    numbers computed; a SparseCore carries its sixteen tasks' slices. -/
def P : (K (F := F)).Pay (nD := nD) (Val := Elt F) (Name := ℕ) (U := UU) where
  st := fun q d c => match q with
    | 0 => bigSep Finset.univ fun i : Fin ((K (F := F)).nSub 0) => iprop(vPc m d (coordsV c i) ∗ kPc d (coordsV c i) (m (kLoc d)))
  dn := fun q d c => match q with
    | 0 => bigSep Finset.univ fun i : Fin ((K (F := F)).nSub 0) => iprop(vPc m d (coordsV c i) ∗ kPc d (coordsV c i) (kOut m d))
  go := fun q d c i => match q with | 0 => iprop(vPc m d (coordsV c i) ∗ kPc d (coordsV c i) (m (kLoc d)))
  td := fun q d c i => match q with | 0 => iprop(vPc m d (coordsV c i) ∗ kPc d (coordsV c i) (kOut m d))
  x := fun _ _ => iprop(emp)

instance P_storable : (P (F := F) m).IsStorable where
  st q d c := match q with
    | 0 => (inferInstance : BI.Storable (upEmb : UEmb _ 𝕄)
        (bigSep Finset.univ fun i : Fin ((K (F := F)).nSub 0) => iprop(vPc m d (coordsV c i) ∗ kPc d (coordsV c i) (m (kLoc d)))))
  dn q d c := match q with
    | 0 => (inferInstance : BI.Storable (upEmb : UEmb _ 𝕄)
        (bigSep Finset.univ fun i : Fin ((K (F := F)).nSub 0) => iprop(vPc m d (coordsV c i) ∗ kPc d (coordsV c i) (kOut m d))))
  go q d c i := match q with
    | 0 => (inferInstance : BI.Storable (upEmb : UEmb _ 𝕄) iprop(vPc m d (coordsV c i) ∗ kPc d (coordsV c i) (m (kLoc d))))
  td q d c i := match q with
    | 0 => (inferInstance : BI.Storable (upEmb : UEmb _ 𝕄) iprop(vPc m d (coordsV c i) ∗ kPc d (coordsV c i) (kOut m d)))

/-! ## The task -/

section Tile

variable (d : Dev nD) (L : grid0.Coords)

abbrev cV (L : grid0.Coords) : Fin τ.nSC := (L 0).castLE hcore0
abbrev jV (L : grid0.Coords) : Fin τ.nSub := (L 1).castLE hsub0
abbrev thr : Thread nD τ := V d (cV L) (jV L)

abbrev inCell : GSem nD τ sig := (thr d L, .dma cc0_scoped0.sem)
abbrev outCell : GSem nD τ sig := (thr d L, .dma cc0_scoped1.sem)

omit [FloatOps F] in
theorem pts_vK (f : Buf (Elt F) (vLoc d)) :
    ((vK L).view.loc (thr d L) ↦[(vK L).view.set]{fullShare} f : sProp 𝕄) = vLoc d ↦[piece L]{fullShare} f := by
  rw [set_vK]
omit [FloatOps F] in
theorem pts_kK (f : Buf (Elt F) (kLoc d)) :
    ((kK L).view.loc (thr d L) ↦[(kK L).view.set]{fullShare} f : sProp 𝕄) = kLoc d ↦[piece L]{fullShare} f := by
  rw [set_kK]

omit [FloatOps F] in
theorem ownSems0_V :
    (ownSems0 (thr d L) : sProp 𝕄)
      = iprop(semVal (inCell d L) 0 ∗ semVal (outCell d L) 0
          ∗ bigSep (((ownCells (thr d L)).erase (inCell d L)).erase (outCell d L)) fun g => semVal g 0) := by
  unfold SparseCore.Cfg.ownSems0
  rw [SparseCore.bigSep_erase' ((mem_ownCells (g := inCell d L)).mpr ⟨rfl, by
      show (SemLoc.dma cc0_scoped0.sem : SemLoc sig).isScoped .scVector = true; decide⟩),
    SparseCore.bigSep_erase' (Finset.mem_erase.mpr ⟨by simp [inCell, outCell]; decide, (mem_ownCells (g := outCell d L)).mpr ⟨rfl, by
      show (SemLoc.dma cc0_scoped1.sem : SemLoc sig).isScoped .scVector = true; decide⟩⟩)]

omit [FloatOps F] in
/-- The two scratch buffers, each at some contents, and the rest of what the subcore owns. -/
theorem ownBufs_V :
    (ownBufs (thr d L) : sProp 𝕄)
      = iprop((∃ f, (thr d L).loc cc0_scratch0 ↦{fullShare} f) ∗ (∃ f, (thr d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The slice of values the task fetches. -/
abbrev fetched : S16384.Idx → F .f32 := (vK L).view.read (Elt F) (m (vLoc d))

/-- Before trip `t` of the loop: the fetched values in the first scratch, and in the second the bucket numbers of the
    first `16 t` of them. -/
def inv (t : Nat) (_ : PUnit) : sProp 𝕄 :=
  iprop((sVal.view.loc (thr d L) ↦{fullShare} (fetched m d L))
    ∗ ∃ g : Buf (Elt F) (sIdx.view.loc (thr d L)), ⌜∀ j : S16384.Idx, (j 0).val < 16 * t → g j = bk (fetched m d L j)⌝
      ∗ (sIdx.view.loc (thr d L) ↦{fullShare} g))

omit [FloatOps F] in
theorem emb_vK_kK (y : S16384.Idx) : ((kK L).view.emb y : S524288.Idx) = (vK L).view.emb y := rfl

omit [FloatOps F] in
theorem fetched_apply (y : S16384.Idx) : fetched m d L y = m (vLoc d) ((vK L).view.emb y) :=
  (View.read_apply _ _).trans (cast_eq _ _)

/-- A trip's store: the bucket numbers of sixteen more values, the earlier ones kept. -/
theorem trip_stores (k : Fin k0_t1_loop.trips) (x : S16384.Idx → F .f32) (g : Buf (Elt F) (sIdx.view.loc (thr d L)))
    (hg : ∀ j : S16384.Idx, (j 0).val < 16 * k.val → g j = bk (x j)) (j : S16384.Idx) (hj : (j 0).val < 16 * (k.val + 1)) :
    sIdx.view.writes (Elt F) g
      [⟨Rect.unit (s := S16384) (k0_off2 k) S16.size (k0_off2_inb k),
        k0_pay1 (View.readAt (Elt F) sVal.view (Rect.unit (s := S16384) (k0_off2 k) S16.size (k0_off2_inb k)).toLoadRect x)⟩] j = bk (x j) := by
  have hoff : ∀ a : Fin S16384.rank, (k0_off2 k) a = 16 * k.val := by
    intro a; rw [k0_off2_eq]; fin_cases a; rfl
  refine (congrFun (View.read_whole (Val := Elt F) (cc0_scratch1 : Ref sig .scVector) _) j).symm.trans ?_
  rcases Nat.lt_or_ge (j 0).val (16 * k.val) with h | h
  · refine (View.read_writes_cons_miss_of_axis sIdx.view g _ [] j 0 (16 * k.val) 16 (hoff 0) rfl rfl (.inl h)).trans ?_
    exact (congrFun (View.read_whole (Val := Elt F) (cc0_scratch1 : Ref sig .scVector) g) j).trans (hg j h)
  · refine (View.read_writes_cons_hit_of_coords sIdx.view g (Rect.unit (s := S16384) (k0_off2 k) S16.size (k0_off2_inb k)) _ []
      (fun a => ⟨(j 0).val - 16 * k.val, by obtain rfl : a = 0 := Subsingleton.elim _ _; show _ < 16; omega⟩) j (by
        intro a; obtain rfl : a = 0 := Subsingleton.elim _ _
        show (j 0).val = (k0_off2 k) 0 + 1 * ((j 0).val - 16 * k.val)
        rw [hoff]; omega)).trans ?_
    rw [pay_lane]
    refine congrArg bk ?_
    rw [View.readAt_apply]
    refine (congrFun (View.read_whole (Val := Elt F) (cc0_scratch0 : Ref sig .scVector) x) _).trans (congrArg x ?_)
    funext a; obtain rfl : a = 0 := Subsingleton.elim _ _
    apply Fin.ext
    rw [LoadRect.idx_apply]
    show (k0_off2 k) 0 + 1 * ((j 0).val - 16 * k.val) = (j 0).val
    rw [hoff]; omega

omit [FloatOps F] in
/-- A whole slice rewritten holds what was written. -/
theorem slice_written (f : Buf (Elt F) (kLoc d)) (w : S16384.Idx → BitVec 32) (y : S16384.Idx) :
    (kK L).view.writes (Elt F) f [⟨Rect.whole S16384, w⟩] ((kK L).view.emb y) = w y := by
  have h : (kK L).view.read (Elt F) ((kK L).view.writes (Elt F) f [⟨Rect.whole S16384, w⟩]) y = w y :=
    View.read_writes_cons_hit_of_coords (kK L).view f (Rect.whole S16384) w [] y y fun a => by
      show (y a).val = 0 + 1 * (y a).val; omega
  exact ((View.read_apply _ _).trans (cast_eq _ _)).symm.trans h

theorem tile_body (hF : (K (F := F)).Facts) (O : CellTallies nD τ sig (HIx 1)) (W : Waits sig (HIx 1)) (hO : ∀ g, O g none = 0) :
    iprop(levAts (K (F := F)).L (K (F := F)).lev ∗ emp ∗ (vPc m d L ∗ kPc d L (m (kLoc d)))
        ∗ scopedBufs (thr d L) ∗ scopedSems0 (thr d L) ∗ owes (thr d L) O W)
      ⊢ wp frame (wpE (defs₀ (F := F)) 𝒱₀ (thr d L) none) Set.univ
          (cc0__sc_bucketize L vM (Memref.isWhole_whole _) kM (Memref.isWhole_whole _)
            sVal (Memref.isWhole_whole _) sIdx (Memref.isWhole_whole _) cc0_scoped0 cc0_scoped1)
          fun _ => iprop((vPc m d L ∗ kPc d L (kOut m d)) ∗ scopedBufs (thr d L) ∗ scopedSems0 (thr d L)
            ∗ ∃ W', ⌜∀ p ∈ W', p ∈ W ∨ p.2 = none⌝ ∗ owes (thr d L) O W') := by
  simp only [cc0__sc_bucketize_eq_skeleton]; unfold cc0__sc_bucketize_skel
  rw [(K (F := F)).scopedBufs_V hF d (cV L) (jV L), SparseCore.Cfg.scopedSems0_V (Val := Elt F) d (cV L) (jV L), ownSems0_V, ownBufs_V]
  iintro ⟨#Hlv, -, ⟨Hv, Hk⟩, ⟨⟨%fs, Hs⟩, ⟨%fi, Hi⟩, Hbufs⟩, ⟨HsemA, HsemB, Hsems⟩, HO⟩
  ihave Hmw := (show levAts (K (F := F)).L (K (F := F)).lev ⊢ Transfers.MayWaits (thr d L) (default : HIx 1) O from
    (K (F := F)).mayWaits_none (thr := thr d L) hO) $$ Hlv
  ihave Hv' := (Entails.of_eq (pts_vK (F := F) d L _).symm) $$ Hv
  ihave Hk' := (Entails.of_eq (pts_kK (F := F) d L _).symm) $$ Hk
  ihave Hs' := (Entails.of_eq (show ((thr d L).loc cc0_scratch0 ↦{fullShare} fs : sProp 𝕄) = (sVal.view.loc (thr d L) ↦{fullShare} fs) from rfl)) $$ Hs
  ihave Hi' := (Entails.of_eq (show ((thr d L).loc cc0_scratch1 ↦{fullShare} fi : sProp 𝕄) = (sIdx.view.loc (thr d L) ↦{fullShare} fi) from rfl)) $$ Hi
  sl_exec
  have hw : View.write (Elt F) sVal.view fs (tile_body.sl.dma0 m d L) Finset.univ = fetched m d L :=
    View.write_whole_univ _ _ _
  rw [hw]
  sl_for (inv m d L) $$ [Hs' Hi']
  case region =>
    intro k _
    unfold inv
    iintro ⟨Hs, %g, %hg, Hi⟩
    sl_exec
    sl_step
    isplitl [Hs]; · iexact Hs
    iexists _; isplitr [Hi]
    rotate_left
    · iexact Hi
    · ipureintro
      exact fun j hj => trip_stores d L k (fetched m d L) g hg j hj
  · unfold inv
    isplitl [Hs']; · iexact Hs'
    iexists fi; isplitr
    · ipureintro; intro j hj; omega
    · iexact Hi'
  iintro %_ HI
  unfold inv
  icases HI with ⟨Hs, %g, %hg, Hi⟩
  sl_exec
  have hg' : ∀ y : S16384.Idx, g y = bk (fetched m d L y) := fun y => hg y (by
    have h := (y 0).isLt
    have : (16384 : ℕ) = 16 * Scf.trips k0_t1_loop.lb k0_t1_loop.ub k0_t1_loop.st := by decide
    rw [← this]; exact h)
  have hout : ∀ i ∈ (kK L).view.set,
      (kK L).view.writes (Elt F) (m (kLoc d)) [⟨Rect.whole S16384, tile_body.sl.dma0_1 d L g⟩] i = kOut m d i := by
    intro i hi
    obtain ⟨y, -, rfl⟩ := Finset.mem_map.mp hi
    refine (slice_written d L _ _ y).trans ?_
    refine (congrFun (View.read_whole (Val := Elt F) (cc0_scratch1 : Ref sig .scVector) g) y).trans ((hg' y).trans ?_)
    exact congrArg bk (fetched_apply m d L y)
  ihave Hk' := (Entails.of_eq (pointsTo_congr hout)) $$ Hk'
  sl_step
  isplitl [Hv' Hk']
  · isplitl [Hv']; · iapply (Entails.of_eq (pts_vK (F := F) d L _)); iexact Hv'
    iapply (Entails.of_eq (pts_kK (F := F) d L _)); iexact Hk'
  isplitl [Hs Hi Hbufs]
  · isplitl [Hs]; · iexists _; iexact Hs
    isplitl [Hi]; · iexists _; iexact Hi
    iexact Hbufs
  isplitl [HsemA HsemB Hsems]
  · isplitl [HsemA]; · iexact HsemA
    isplitl [HsemB]; · iexact HsemB
    iexact Hsems
  iexists _; isplitr [HO]
  rotate_left
  · iexact HO
  · ipureintro; intro p hp
    rcases Finset.mem_insert.mp hp with rfl | hp
    · exact .inr rfl
    rcases Finset.mem_insert.mp hp with rfl | hp
    · exact .inr rfl
    · exact .inl hp

end Tile

/-! ## The launch theorem's obligations -/

theorem defs₀_vector (c : Fin τ.nSC) (s : Fin τ.nSub) :
    defs₀ (F := F) (.scVector c s) 0 ()
      = SparseCore.onTile hcore0 hsub0 (fun c s => cc0__sc_bucketize (coordsV c s) vM (Memref.isWhole_whole _) kM (Memref.isWhole_whole _)
          sVal (Memref.isWhole_whole _) sIdx (Memref.isWhole_whole _) cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) handshakes O W hO).trans (wp_mono frame _ _ fun _ => obl_post)

theorem vecSplit : (K (F := F)).VecSplit' (P m) 0 := by
  intro d c
  show (bigSep Finset.univ fun i : Fin ((K (F := F)).nSub 0) => iprop(vPc m d (coordsV c i) ∗ kPc d (coordsV c i) (m (kLoc d))))
    ⊢ |={Set.univ}=> iprop(
      (bigSep Finset.univ fun i : Fin ((K (F := F)).nSub 0) => iprop(vPc m d (coordsV c i) ∗ kPc d (coordsV c i) (m (kLoc d))))
      ∗ ((bigSep Finset.univ fun i : Fin ((K (F := F)).nSub 0) => iprop(vPc m d (coordsV c i) ∗ kPc d (coordsV c i) (kOut m d)))
          -∗ bigSep Finset.univ fun i : Fin ((K (F := F)).nSub 0) => iprop(vPc m d (coordsV c i) ∗ kPc d (coordsV c i) (kOut m d))))
  iintro H; imodintro
  isplitl [H]; · iexact H
  iintro H; iexact H

/-! ## The two arrays as the thirty-two tasks' slices -/

theorem piece_mem (c : Fin (grid0.bound 0)) (s : Fin (grid0.bound 1)) (j : S524288.Idx) :
    j ∈ piece (coordsV c s) ↔ 32768 * s.val + 16384 * c.val ≤ (j 0).val ∧ (j 0).val < 32768 * s.val + 16384 * c.val + 16384 := by
  have hoff : ∀ a, k0_off1 (coordsV c s) a = 32768 * s.val + 16384 * c.val := by
    intro a; rw [k0_off1_eq]; obtain rfl : a = 0 := Subsingleton.elim _ _; rfl
  constructor
  · intro h
    obtain ⟨x, hx, e⟩ := (rK (coordsV c s)).mem_set.mp h 0
    change x < 16384 at hx
    change (j 0).val = k0_off1 (coordsV c s) 0 + 1 * x at e
    rw [hoff] at e; omega
  · intro h
    refine (rK (coordsV c s)).mem_set.mpr fun a => ?_
    obtain rfl : a = 0 := Subsingleton.elim _ _
    refine ⟨(j 0).val - (32768 * s.val + 16384 * c.val), ?_, ?_⟩
    · show _ < 16384; omega
    · show (j 0).val = k0_off1 (coordsV c s) 0 + 1 * _
      rw [hoff]; omega

abbrev Task : Type := Fin (grid0.bound 0) × Fin (grid0.bound 1)

theorem pieces_disjoint : ∀ p ∈ (Finset.univ : Finset Task), ∀ q ∈ (Finset.univ : Finset Task), p ≠ q →
    Disjoint (piece (coordsV p.1 p.2)) (piece (coordsV q.1 q.2)) := by
  intro p _ q _ h
  refine Finset.disjoint_left.mpr fun j hp hq => h ?_
  rw [piece_mem] at hp hq
  have h1 : p.1.val < 2 := p.1.isLt
  have h2 : q.1.val < 2 := q.1.isLt
  exact Prod.ext (Fin.ext (by omega)) (Fin.ext (by omega))

theorem pieces_cover : (Finset.univ : Finset Task).biUnion (fun p => piece (coordsV p.1 p.2)) = Finset.univ := by
  refine Finset.eq_univ_iff_forall.mpr fun j => ?_
  have hj : (j 0).val < 524288 := (j 0).isLt
  refine Finset.mem_biUnion.mpr ⟨(⟨(j 0).val / 16384 % 2, by show _ < 2; omega⟩, ⟨(j 0).val / 32768, by show _ < 16; omega⟩), Finset.mem_univ _, ?_⟩
  rw [piece_mem]
  show 32768 * ((j 0).val / 32768) + 16384 * ((j 0).val / 16384 % 2) ≤ _ ∧ _ < 32768 * ((j 0).val / 32768) + 16384 * ((j 0).val / 16384 % 2) + 16384
  omega

end Cert.Proof.Buckets
-- ==== Proof.Tc.lean ====
/-
  The TensorCore half of the kernel: a grid of 64 points, each staging 8192 rows of logits and 8192 bucket numbers and
  writing 8192 log-densities back. The body is run once at any staging buffers; the region is stated from any contents
  of the arrays; and what it leaves in the result's array is one function of the logits and the bucket numbers.
-/
module

public import proofs.«01_k».proof.Proof.Sc
public import proofs.«01_k».proof.Proof.Gen.KernelIdeal.Launch
public import proofs.«01_k».proof.Proof.Gen.KernelIdeal.Points
public import Idealize.ShloMosaic.Lib.Pipeline.RegionsLoop
public import Idealize.ShloMosaic.Lib.Pipeline.Frame

@[expose] public section

noncomputable section

namespace Cert.Proof.Buckets

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation)

variable {F : FTy → Type} [FloatOps F] [∀ e, Nonempty (Elt F e)]

local notation "𝕄" => MT nD τ sig (HIx 1) (Elt F) ℕ UU ℕ

/-! ## The body -/

theorem zero2 : (![0, 0] : Fin 2 → Nat) = fun _ => 0 := by funext a; fin_cases a <;> rfl

theorem mem_unit_zero {S : Shape} {off : Fin S.rank → Nat} (h : off = fun _ => 0) (inb : ∀ a, off a + S.size a ≤ S.size a)
    (y : S.Idx) : y ∈ (Rect.unit off S.size inb).set := by
  subst h
  exact (Rect.mem_set_unit ..).2 fun a => ⟨Nat.zero_le _, by rw [Nat.zero_add]; exact (y a).isLt⟩

/-- From the two operands' staging buffers and the result's at anything, the body leaves the operands as they were and
    the result's buffer at the payload. -/
theorem body_run (c : Dev nD) (i : grid1.Coords) (M0 : Memref sig .tc .vmem S8192x256 .f32) (h0 : M0.IsWhole)
    (M1 : Memref sig .tc .vmem S8192x1 .i32) (h1 : M1.IsWhole) (M2 : Memref sig .tc .vmem S8192x1 .f32) (h2 : M2.IsWhole)
    (x0 : S8192x256.Idx → F .f32) (x1 : S8192x1.Idx → BitVec 32) (Q : PUnit → sProp 𝕄) :
    iprop(owns (c : Thread nD τ) M0 fullShare (x0 : S8192x256.Idx → Elt F .f32)
        ∗ owns (c : Thread nD τ) M1 fullShare (x1 : S8192x1.Idx → Elt F .i32)
        ∗ (∃ d, owns (c : Thread nD τ) M2 fullShare d)
        ∗ (iprop(owns (c : Thread nD τ) M0 fullShare (x0 : S8192x256.Idx → Elt F .f32)
            ∗ owns (c : Thread nD τ) M1 fullShare (x1 : S8192x1.Idx → Elt F .i32)
            ∗ owns (c : Thread nD τ) M2 fullShare (k1_pay1 x0 x1 : S8192x1.Idx → Elt F .f32)) -∗ Q ⟨⟩))
      ⊢ wp frame (wpE (defs₀ (F := F)) Variants.none c none) Set.univ (cc1__dense_body i M0 h0 M1 h1 M2 h2) Q := by
  simp only [cc1__dense_body_eq_skeleton]; unfold cc1__dense_body_skel
  unfold owns
  iintro ⟨⟨%f0, %hf0, H0⟩, ⟨%f1, %hf1, H1⟩, ⟨%d2, %f2, -, H2⟩, Hk⟩
  sl_exec
  sl_step
  iapply Hk
  isplitl [H0]
  · iexists _; isplitr; swap; · iexact H0
    ipureintro; exact hf0
  isplitl [H1]
  · iexists _; isplitr; swap; · iexact H1
    ipureintro; exact hf1
  · iexists _; isplitr; swap; · iexact H2
    ipureintro
    subst hf0 hf1
    rw [View.read_writes_eq_canon _ _ _ fun y => ⟨_, List.mem_singleton_self _, mem_unit_zero zero2 inb_S8192x1_S8192x1_0_0 y⟩,
      View.canon_unit_zero zero2, View.readAt_eq_ld, View.readAt_eq_ld, View.ld_unit_zero zero2, View.ld_unit_zero zero2]

/-! ## The region's data, at contents `V` of the arrays on entry -/

variable (V : (c : Dev nD) → (b : Ref sig .tc) → Buf (Elt F) ((c : Thread nD τ).loc b))

/-- The logits' block and the bucket numbers' block at a grid point. -/
def blk0 (c : Dev nD) (t : Fin cfg1.N) : S8192x256.Idx → F .f32 := ((cfg1.win 0).blk t).view.read (Elt F) (V c main_arg0)
def blk1 (c : Dev nD) (t : Fin cfg1.N) : S8192x1.Idx → BitVec 32 := ((cfg1.win 1).blk t).view.read (Elt F) (V c main_v1)

/-- What the core has waited for up to the region: only pairs whose level is at most 8. -/
def low (c : Dev nD) : Set (SemLoc sig × HIx 1) := {p | (K (F := F)).lev ((SparseCore.T c : Thread nD τ), p.1) p.2 ≤ 8}

def dat (c : Dev nD) : Dat τ (Elt F) (HIx 1) ℕ UU ℕ cfg1 c where
  A w := V c (Pipeline.arrRef spec1 w)
  after w t := match w with
    | ⟨0, _⟩ => (blk0 V c t : S8192x256.Idx → Elt F .f32)
    | ⟨1, _⟩ => (blk1 V c t : S8192x1.Idx → Elt F .i32)
    | ⟨2, _⟩ => (k1_pay1 (blk0 V c t) (blk1 V c t) : S8192x1.Idx → Elt F .f32)
  Φ _ := Pipeline.scopedRest (Ix := HIx 1) (Name := ℕ) (U := UU) (Lvl := ℕ) (Val := Elt F) spec1 c
  q _ := fullShare
  owed _ := 0
  recorded _ := low (F := F) c

abbrev adm : (p : Fin 1) → (pcfgs (F := F) p).Adm := fun p => (cfgs p).toPCfg_adm

def pdats : (p : Fin 1) → (c : Dev nD) → Dat τ (Elt F) (HIx 1) ℕ UU ℕ (Pipeline.pin (pcfgs (F := F)) adm p) c
  | ⟨0, _⟩ => fun c => dat V c

theorem before0 (c : Dev nD) (t : Fin cfg1.N) (d) : (dat V c).before 0 t d = (blk0 V c t : S8192x256.Idx → Elt F .f32) := by
  rw [Dat.before_fetched _ _ _ (fetch1_0 t)]; rfl

theorem before1 (c : Dev nD) (t : Fin cfg1.N) (d) : (dat V c).before 1 t d = (blk1 V c t : S8192x1.Idx → Elt F .i32) := by
  rw [Dat.before_fetched _ _ _ (fetch1_1 t)]; rfl

theorem body_obligation (c : Dev nD) : BodyObligation (dat V c) (defs₀ (F := F)) 𝒱₀ none Set.univ := fun t => by
  rw [bigSep_W1, bigSep_W1]
  rw [show (dat V c).Φ t.succ = (dat V c).Φ t.castSucc from rfl,
    show (dat V c).owesAt none t.succ = (dat V c).owesAt none t.castSucc from rfl]
  show _ ⊢ wp frame _ _ (bodyAt1 t) _
  iintro ⟨HΦ, Howes, ⟨%d0, H0⟩, ⟨%d1, H1⟩, ⟨%d2, H2⟩⟩
  rw [before0, before1]
  iapply (body_run c _ _ _ _ _ _ _ (blk0 V c t) (blk1 V c t) _)
  isplitl [H0]; · iexact H0
  isplitl [H1]; · iexact H1
  isplitl [H2]; · iexists _; iexact H2
  iintro ⟨H0, H1, H2⟩
  isplitl [HΦ]; · iexact HΦ
  isplitl [Howes]; · iexact Howes
  isplitl [H0]; · iexact H0
  isplitl [H1]; · iexact H1
  iexact H2

/-! ## What the region leaves in the result's array -/

/-- Row `r` of the whole arrays, as row `r % 8192` of block `r / 8192`. -/
def row (t : Fin 64) (j : Fin 8192) : Fin 524288 := ⟨t.val * 8192 + j.val, by omega⟩

/-- Block `t` of the logits and of the bucket numbers. -/
def rows0 (x : S524288x256.Idx → F .f32) (t : Fin 64) : S8192x256.Idx → F .f32 := fun j =>
  x fun a => match a with | ⟨0, _⟩ => row t (j 0) | ⟨1, _⟩ => j 1
def rows1 (k : S524288x1.Idx → BitVec 32) (t : Fin 64) : S8192x1.Idx → BitVec 32 := fun j =>
  k fun a => match a with | ⟨0, _⟩ => row t (j 0) | ⟨1, _⟩ => j 1

/-- The payload, block by block: every row's log-density from that row's logits and bucket number. -/
def dense (x : S524288x256.Idx → F .f32) (k : S524288x1.Idx → BitVec 32) : S524288x1.Idx → F .f32 := fun i =>
  k1_pay1 (rows0 x ⟨(i 0).val / 8192, by have : (i 0).val < 524288 := (i 0).isLt; omega⟩)
    (rows1 k ⟨(i 0).val / 8192, by have : (i 0).val < 524288 := (i 0).isLt; omega⟩)
    fun a => match a with | ⟨0, _⟩ => ⟨(i 0).val % 8192, Nat.mod_lt _ (by decide)⟩ | ⟨1, _⟩ => i 1

theorem index0 : ∀ t : Fin grid1.N, win1_0.index t 0 = t.val ∧ win1_0.index t 1 = 0 := by decide +kernel
theorem index1 : ∀ t : Fin grid1.N, win1_1.index t 0 = t.val ∧ win1_1.index t 1 = 0 := by decide +kernel
theorem index2 : ∀ t : Fin grid1.N, win1_2.index t 0 = t.val ∧ win1_2.index t 1 = 0 := by decide +kernel
theorem xsize2 : ∀ t : Fin grid1.N, win1_2.xsize (grid1.coords t) 0 = 8192 ∧ win1_2.xsize (grid1.coords t) 1 = 1 := by decide +kernel

theorem blk0_eq (c : Dev nD) (t : Fin cfg1.N) : blk0 V c t = rows0 (V c main_arg0) (t.cast N_1) := by
  funext j
  show V c main_arg0 ((win1_0.rect t).emb j) = V c main_arg0 _
  congr 1; funext a; apply Fin.ext
  match a with
  | ⟨0, _⟩ => show win1_0.index t 0 * 8192 + 1 * (j 0).val = t.val * 8192 + (j 0).val; rw [(index0 t).1, Nat.one_mul]
  | ⟨1, _⟩ => show win1_0.index t 1 * 256 + 1 * (j 1).val = (j 1).val; rw [(index0 t).2]; omega

theorem blk1_eq (c : Dev nD) (t : Fin cfg1.N) : blk1 V c t = rows1 (V c main_v1) (t.cast N_1) := by
  funext j
  show V c main_v1 ((win1_1.rect t).emb j) = V c main_v1 _
  congr 1; funext a; apply Fin.ext
  match a with
  | ⟨0, _⟩ => show win1_1.index t 0 * 8192 + 1 * (j 0).val = t.val * 8192 + (j 0).val; rw [(index1 t).1, Nat.one_mul]
  | ⟨1, _⟩ => show win1_1.index t 1 * 1 + 1 * (j 1).val = (j 1).val; rw [(index1 t).2]; omega

/-- What point `t` writes back is its block of `dense`. -/
theorem flushed_eq (c : Dev nD) (t : Fin cfg1.N) :
    (dat V c).flushed 2 t = ((cfg1.win 2).blk t).view.read (Elt F) (dense (V c main_arg0) (V c main_v1) : S524288x1.Idx → Elt F .f32) := by
  funext j
  have hj : (j 0).val < 8192 := lt_of_lt_of_eq (j 0).isLt (xsize2 t).1
  have e0 : (((win1_2.rect t).emb j) 0).val = t.val * 8192 + (j 0).val := by
    show win1_2.index t 0 * 8192 + 1 * (j 0).val = _; rw [(index2 t).1, Nat.one_mul]
  have e1 : (((win1_2.rect t).emb j) 1).val = (j 1).val := by
    show win1_2.index t 1 * 1 + 1 * (j 1).val = _; rw [(index2 t).2]; omega
  show k1_pay1 (blk0 V c t) (blk1 V c t) _ = dense (V c main_arg0) (V c main_v1) ((win1_2.rect t).emb j)
  have hd : (((win1_2.rect t).emb j) 0).val / 8192 = (t.cast N_1).val := by rw [e0]; show _ = t.val; omega
  have hm : (((win1_2.rect t).emb j) 0).val % 8192 = (j 0).val := by rw [e0]; omega
  rw [blk0_eq, blk1_eq]
  unfold dense
  rw [show (⟨(((win1_2.rect t).emb j) 0).val / 8192, _⟩ : Fin 64) = t.cast N_1 from Fin.ext hd]
  congr 1; funext a; apply Fin.ext
  match a with
  | ⟨0, _⟩ => exact hm.symm
  | ⟨1, _⟩ => exact e1.symm

theorem mem_blk (t : Fin cfg1.N) (i : S524288x1.Idx) :
    i ∈ ((cfg1.win 2).blk t).view.set ↔ t.val * 8192 ≤ (i 0 : Nat) ∧ (i 0 : Nat) < t.val * 8192 + 8192 := by
  show i ∈ ((View.whole main_v2).slice (win1_2.rect t)).set ↔ _
  rw [View.set_slice_whole, Rect.mem_set_unit]
  have h1 : (i 1 : Nat) < 1 := (i 1).isLt
  refine ⟨fun h => ?_, fun h a => ?_⟩
  · have : win1_2.index t 0 * 8192 ≤ (i 0 : Nat) ∧ (i 0 : Nat) < win1_2.index t 0 * 8192 + win1_2.xsize (grid1.coords t) 0 := h 0
    rwa [(index2 t).1, (xsize2 t).1] at this
  · match a with
    | ⟨0, _⟩ =>
      show win1_2.index t 0 * 8192 ≤ (i 0 : Nat) ∧ (i 0 : Nat) < win1_2.index t 0 * 8192 + win1_2.xsize (grid1.coords t) 0
      rwa [(index2 t).1, (xsize2 t).1]
    | ⟨1, _⟩ =>
      show win1_2.index t 1 * 1 ≤ (i 1 : Nat) ∧ (i 1 : Nat) < win1_2.index t 1 * 1 + win1_2.xsize (grid1.coords t) 1
      rw [(index2 t).2, (xsize2 t).2]; omega

/-- The result's array after the region. -/
theorem final (c : Dev nD) : (dat V c).arrAt 2 cfg1.N = (dense (V c main_arg0) (V c main_v1) : S524288x1.Idx → Elt F .f32) :=
  Dat.arrAt_eq_of_cover _ _ _ (fun t _ => flushed_eq V c t) fun i =>
    have hi : ((i : S524288x1.Idx) 0).val < 524288 := ((i : S524288x1.Idx) 0).isLt
    ⟨⟨((i : S524288x1.Idx) 0).val / 8192, lt_of_lt_of_eq (by omega : ((i : S524288x1.Idx) 0).val / 8192 < 64) N_1.symm⟩, flush1_2 _,
      (mem_blk _ i).2 ⟨by show _ / 8192 * 8192 ≤ _; omega, by show _ < _ / 8192 * 8192 + 8192; omega⟩⟩

/-! ## The region over the thread state -/

variable (Vp : (c : Dev nD) → (b : Ref sig .tc) → Buf (Elt F) ((c : Thread nD τ).loc b))

/-- The core owes nothing and has waited only for pairs of level at most 8. -/
def clear (c : Dev nD) : sProp 𝕄 :=
  iprop(∃ W, ⌜(K (F := F)).WBelow (SparseCore.T c) W 8⌝ ∗ owes (SparseCore.T c : Thread nD τ) (0 : CellTallies nD τ sig (HIx 1)) W)

set_option backward.isDefEq.respectTransparency.types false in
def reg (hVp_out : ∀ c, Vp c main_v2 = (dense (V c main_arg0) (V c main_v1) : S524288x1.Idx → Elt F .f32))
    (hVp_ne : ∀ c (b : Ref sig .tc), b ≠ main_v2 → Vp c b = V c b) :
    Pipeline.RegionSeg (pcfgs (F := F)) adm (pdats V) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V c).loose
  hwaits := Pipeline.hwaits_of_owed_zero _ _ _ _ _ _ 0 fun _ _ => rfl
  pre c := iprop(unscopedBufs c (V c) ∗ clear c)
  post c := iprop(unscopedBufs c (Vp c) ∗ clear c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V) launch1.win launch1.arr_whole c
      ((pdats V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold clear Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V 0 c).Φ 0 = Pipeline.scopedRest (Ix := HIx 1) (Name := ℕ) (U := UU) (Lvl := ℕ) (Val := Elt F) spec1 c from rfl]
    iintro ⟨-, -, Hr⟩; iexact Hr
  hout c := by
    rw [Pipeline.ownSems0_none, show (pdats V 0 c).Φ (Fin.last _) = Pipeline.scopedRest (Ix := HIx 1) (Name := ℕ) (U := UU) (Lvl := ℕ) (Val := Elt F) spec1 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch1.win launch1.arr_whole c
      (pdats V) ((pdats V 0 c).share_full fun _ => rfl) (V c) (Vp c) ((pdats V 0 c).arrAt · cfg1.N)
      (fun w => by
        fin_cases w
        · exact ((pdats V 0 c).arrAt_in 0 rfl _).trans (hVp_ne c main_arg0 (by decide)).symm
        · exact ((pdats V 0 c).arrAt_in 1 rfl _).trans (hVp_ne c main_v1 (by decide)).symm
        · exact (final V c).trans (hVp_out c).symm)
      (fun b hb => hVp_ne c b fun h => hb (h ▸ Finset.mem_image.mpr ⟨2, Finset.mem_univ _, rfl⟩))
    iintro ⟨Ha, HO, -, Hrest⟩
    imodintro
    isplitl [Ha Hrest]
    · iapply hjoin; isplitl [Ha] <;> iassumption
    unfold clear Pipeline.Dat.owesAt Pipeline.owesWithin
    icases HO with ⟨%W, %hW, HO⟩; iexists W
    isplitr
    · ipureintro
      intro p hp
      rcases hW hp with h | ⟨w, s, rfl⟩
      · exact h
      · exact Nat.zero_le _
    iexact HO

end Cert.Proof.Buckets

end
-- ==== Proof.Run.lean ====
/-
  The whole program's run: the values and the bucket array are dealt to the 32 tasks and come back with the bucket
  numbers in; the host shapes them into a column; the grid writes the column of log-densities; and the host shapes that
  column back. It ends with the arguments as they were, every counter at zero, and the result at one function of the
  arguments.
-/
module

public import proofs.«01_k».proof.Proof.Sc
public import proofs.«01_k».proof.Proof.Tc

@[expose] public section

set_option maxRecDepth 16384

noncomputable section

namespace Cert.Proof.Buckets

open Cert.KernelIdeal Cert.KernelIdeal.Gen

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (ucRefs unscopedBufs_held)

variable {F : FTy → Type} [FloatOps F] [∀ e, Nonempty (Elt F e)]

local notation "𝕄" => MT nD τ sig (HIx 1) (Elt F) ℕ UU ℕ

variable (m : (ℓ : Loc nD τ sig) → Buf (Elt F) ℓ) (ρ : Dev nD → PrngReg)

/-! ## The launch element -/

def u₀ : UU := (initOf (K (F := F)).hsCells (K (F := F)).hsToks,
  (initOf (Pipeline.cells (Pipeline.pin (pcfgs (F := F)) adm) cellOf_inj)
    (Pipeline.launchToks (Pipeline.pin (pcfgs (F := F)) adm) cellOf_inj), 1))

/-- What device `d`'s thread takes from the launch for the grid: its staging cells' accounts and their tokens. -/
abbrev G (d : Dev nD) : sProp 𝕄 :=
  iprop((bigSep Finset.univ fun p : Fin 1 => Pipeline.cellsGhost (Pipeline.pin (pcfgs (F := F)) adm) EP p d)
    ∗ bigSep Finset.univ fun p : Fin 1 => Pipeline.toksInit (Pipeline.pin (pcfgs (F := F)) adm) EP p d)

theorem ownU_split (a : UH) (b : URounds (GSem nD τ sig) Unit) :
    (ownU (a, (b, (1 : Counters))) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op ((b, 1) : UL))))

theorem x_emp : (bigSep Finset.univ fun thr : Thread nD τ => bigSep Finset.univ fun q : Fin 1 => (P (F := F) m).x q thr) = (iprop(emp) : sProp 𝕄) := by
  rw [show (fun thr : Thread nD τ => bigSep Finset.univ fun q : Fin 1 => (P (F := F) m).x q thr) = fun _ => (iprop(emp) : sProp 𝕄) from
    funext fun _ => bigSep_emp_const _]
  exact bigSep_emp_const _

theorem launch_split : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_split _ _) $$ Hu
  icases H with ⟨HH, HP⟩
  imod (Pipeline.fund_ghost (Pipeline.pin (pcfgs (F := F)) adm) EP cellOf_inj) $$ HP with ⟨Hc, Ht⟩
  imodintro
  isplitl [HH]; · iexact HH
  isplitl [Hc Ht]
  · unfold G
    rw [bigSep_sep']
    isplitl [Hc] <;> iassumption
  rw [x_emp]; iempintro

/-! ## The two arrays dealt to the tasks -/

theorem deal (d : Dev nD) (f : Buf (Elt F) (kLoc d)) :
    (bigSep Finset.univ fun c : Fin ((K (F := F)).nCore 0) => bigSep Finset.univ fun i : Fin ((K (F := F)).nSub 0) =>
        iprop(vPc m d (coordsV c i) ∗ kPc d (coordsV c i) f))
      = (iprop((vLoc d ↦{fullShare} m (vLoc d)) ∗ kLoc d ↦{fullShare} f) : sProp 𝕄) := by
  have hv : (vLoc d ↦{fullShare} m (vLoc d) : sProp 𝕄)
      = bigSep (Finset.univ : Finset Task) fun p => vPc m d (coordsV p.1 p.2) := by
    refine Eq.trans ?_ (pointsTo_biUnion (ℓ := vLoc d) (q := fullShare) (f := m (vLoc d)) Finset.univ (fun p : Task => piece (coordsV p.1 p.2)) pieces_disjoint)
    rw [pieces_cover]
  have hk : (kLoc d ↦{fullShare} f : sProp 𝕄)
      = bigSep (Finset.univ : Finset Task) fun p => kPc d (coordsV p.1 p.2) f := by
    refine Eq.trans ?_ (pointsTo_biUnion (ℓ := kLoc d) (q := fullShare) (f := f) Finset.univ (fun p : Task => piece (coordsV p.1 p.2)) pieces_disjoint)
    rw [pieces_cover]
  rw [hv, hk, ← bigSep_sep', ← Finset.univ_product_univ, SparseCore.bigSep_product]
  rfl

theorem st0_eq (d : Dev nD) : (bigSep Finset.univ fun c : Fin ((K (F := F)).nCore 0) => (P m).st 0 d c)
    = (iprop((vLoc d ↦{fullShare} m (vLoc d)) ∗ kLoc d ↦{fullShare} m (kLoc d)) : sProp 𝕄) := deal m d _
theorem dn0_eq (d : Dev nD) : (bigSep Finset.univ fun c : Fin ((K (F := F)).nCore 0) => (P m).dn 0 d c)
    = (iprop((vLoc d ↦{fullShare} m (vLoc d)) ∗ kLoc d ↦{fullShare} kOut m d) : sProp 𝕄) := deal m d _

/-! ## The memory after each step of @main -/

/-- Where each device's memory stands, buffer by buffer. -/
abbrev Mem (F : FTy → Type) : Type := Valuation τ sig (Elt F)

/-- The column of bucket numbers the host makes, and the column of densities it flattens, as operations. -/
abbrev colOp : HloOp τ sig (Elt F) :=
  StableHlo.unary main_v0 main_v1 (broadcastInDim S524288x1 ![0] bcast_S524288_S524288x1_0 : (⟨S524288, .i32⟩ : BufTy).Contents (Elt F) → (⟨S524288x1, .i32⟩ : BufTy).Contents (Elt F))
abbrev flatOp : HloOp τ sig (Elt F) :=
  StableHlo.reshape main_v2 main_v3 rfl shapeCasts_S524288x1_S524288

theorem col_sub : (colOp (F := F)).bufs ⊆ ucRefs τ sig :=
  show ({(main_v0 : DevRef τ sig)} ∪ {(main_v1 : DevRef τ sig)} : Finset (DevRef τ sig)) ⊆ _ by decide
theorem flat_sub : (flatOp (F := F)).bufs ⊆ ucRefs τ sig :=
  show ({(main_v2 : DevRef τ sig)} ∪ {(main_v3 : DevRef τ sig)} : Finset (DevRef τ sig)) ⊆ _ by decide

def mem0 (d : Dev nD) : Mem F := fun b => m (d, b)
def mem1 (d : Dev nD) : Mem F := Function.update (mem0 m d) main_v0 (kOut m d)
def mem2 (d : Dev nD) : Mem F := (colOp (F := F)).result (mem1 m d)
def mem3 (d : Dev nD) : Mem F := Function.update (mem2 m d) main_v2 (dense (mem2 m d main_arg0) (mem2 m d main_v1))
def mem4 (d : Dev nD) : Mem F := (flatOp (F := F)).result (mem3 m d)

/-- The column of bucket numbers of the values. -/
def bucketCol (v : S524288.Idx → F .f32) : S524288x1.Idx → BitVec 32 :=
  broadcastInDim (α := Elt F .i32) S524288x1 ![0] bcast_S524288_S524288x1_0 (buckets v)

/-- What the program returns of its arguments. -/
def output (x : S524288x256.Idx → F .f32) (v : S524288.Idx → F .f32) : S524288.Idx → F .f32 :=
  shapeCast S524288 (dense x (bucketCol v)) shapeCasts_S524288x1_S524288

theorem mem2_arg0 (d : Dev nD) : mem2 m d main_arg0 = m ((SparseCore.T d).loc main_arg0) := by
  unfold mem2 mem1
  rw [StableHlo.unary_result_ne _ _ _ _ _ _ (show main_arg0 ≠ main_v1 by decide)]
  exact Function.update_of_ne (by decide) _ _
theorem mem2_col (d : Dev nD) : mem2 m d main_v1 = bucketCol (m (vLoc d)) := by
  unfold mem2 mem1
  rw [StableHlo.unary_result, Function.update_self]
  rfl
theorem mem4_arg0 (d : Dev nD) : mem4 m d main_arg0 = m ((SparseCore.T d).loc main_arg0) := by
  unfold mem4 mem3
  rw [StableHlo.reshape_result_ne _ _ _ _ _ _ _ (show main_arg0 ≠ main_v3 by decide), Function.update_of_ne (by decide)]
  exact mem2_arg0 m d
theorem mem4_arg1 (d : Dev nD) : mem4 m d main_arg1 = m (vLoc d) := by
  unfold mem4 mem3 mem2 mem1
  rw [StableHlo.reshape_result_ne _ _ _ _ _ _ _ (show main_arg1 ≠ main_v3 by decide), Function.update_of_ne (by decide),
    StableHlo.unary_result_ne _ _ _ _ _ _ (show main_arg1 ≠ main_v1 by decide)]
  exact Function.update_of_ne (by decide) _ _
theorem mem4_out (d : Dev nD) : mem4 m d main_v3 = output (m ((SparseCore.T d).loc main_arg0)) (m (vLoc d)) := by
  unfold mem4 mem3
  rw [StableHlo.reshape_result, Function.update_self, mem2_arg0, mem2_col]
  rfl

/-! ## @main on the TensorCore -/

theorem unscopedBufs_eq (d : Dev nD) (W : (b : Ref sig .tc) → Buf (Elt F) ((d.tc : Thread nD τ).loc b)) :
    (unscopedBufs d W : sProp 𝕄) = iprop(((d.tc : Thread nD τ).loc main_arg0 ↦{fullShare} W main_arg0) ∗ (vLoc d ↦{fullShare} W main_arg1)
      ∗ (kLoc d ↦{fullShare} W main_v0) ∗ ((d.tc : Thread nD τ).loc main_v1 ↦{fullShare} W main_v1)
      ∗ ((d.tc : Thread nD τ).loc main_v2 ↦{fullShare} W main_v2) ∗ (d.tc : Thread nD τ).loc main_v3 ↦{fullShare} W main_v3) := by
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton]

/-- After the SparseCore call only the bucket array has changed. -/
theorem after_buckets (d : Dev nD) :
    (unscopedBufs d (fun b => mem1 m d b) : sProp 𝕄) = iprop(((d.tc : Thread nD τ).loc main_arg0 ↦{fullShare} m ((SparseCore.T d).loc main_arg0)) ∗ (vLoc d ↦{fullShare} m (vLoc d))
      ∗ (kLoc d ↦{fullShare} kOut m d) ∗ ((d.tc : Thread nD τ).loc main_v1 ↦{fullShare} m ((SparseCore.T d).loc main_v1))
      ∗ ((d.tc : Thread nD τ).loc main_v2 ↦{fullShare} m ((SparseCore.T d).loc main_v2)) ∗ (d.tc : Thread nD τ).loc main_v3 ↦{fullShare} m ((SparseCore.T d).loc main_v3)) := by
  rw [unscopedBufs_eq]
  have ne (b : Ref sig .tc) (h : (b : DevRef τ sig) ≠ main_v0) : mem1 m d b = m ((SparseCore.T d).loc b) := Function.update_of_ne h _ _
  rw [ne main_arg0 (by decide), ne main_arg1 (by decide), ne main_v1 (by decide), ne main_v2 (by decide), ne main_v3 (by decide),
    show mem1 m d main_v0 = kOut m d from Function.update_self _ _ _]

abbrev FIN (d : Dev nD) : sProp 𝕄 :=
  iprop(((SparseCore.T d).loc main_arg0 ↦{fullShare} m ((SparseCore.T d).loc main_arg0)) ∗ (vLoc d ↦{fullShare} m (vLoc d))
    ∗ (SparseCore.T d).loc main_v3 ↦{fullShare} (output (m ((SparseCore.T d).loc main_arg0)) (m (vLoc d)) : Buf (Elt F) ((SparseCore.T d).loc main_v3)))

/-- The grid's call: from the memory after the host's first operation to the memory with the densities in. -/
theorem grid_call (κ : GSem nD τ sig → ℕ) (d : Dev nD) (Q : PUnit → sProp 𝕄) :
    iprop((K (F := F)).ctx EH (P m) κ ∗ boundary (SparseCore.T d : Thread nD τ) ∗ G (F := F) d ∗ unscopedBufs d (fun b => mem2 m d b) ∗ clear d
        ∗ ((boundary (SparseCore.T d : Thread nD τ) ∗ unscopedBufs d (fun b => mem3 m d b) ∗ clear d) -∗ Q ⟨⟩))
      ⊢ wp frame (wpE ((K (F := F)).defs (D (F := F))) 𝒱 (SparseCore.T d) none) Set.univ
          (Prog.lift (.customCall (SparseCore.inner (Pipeline.entry 0)) ())) Q := by
  have hlift := (K (F := F)).wp_liftProg (D (F := F)) 𝒱 (SparseCore.T d) Set.univ none
    (.op (.customCall (Pipeline.entry (0 : Fin 1)) ()) fun r => .ret r) Q
  refine BIBase.Entails.trans ?_ hlift
  have h1 (c : Dev nD) : mem3 m c main_v2 = (dense (mem2 m c main_arg0) (mem2 m c main_v1) : S524288x1.Idx → Elt F .f32) := Function.update_self _ _ _
  have h2 (c : Dev nD) (b : Ref sig .tc) (hb : b ≠ main_v2) : mem3 m c b = mem2 m c b :=
    Function.update_of_ne (fun e => hb (Proc.devRef_injective .tc e)) _ _
  have hseg := Pipeline.RegionSeg.wp (pcfgs (F := F)) adm (pdats fun c b => mem2 m c b) none cellOf_inj EP defs₀ 𝒱₀ (K (F := F)).L (K (F := F)).lev
    (reg (fun c b => mem2 m c b) (fun c b => mem3 m c b) h1 h2) d none (fun _ h => by cases h) (fun r => .ret r) Q
  refine BIBase.Entails.trans ?_ hseg
  iintro ⟨#Hctx, Hb, ⟨Hc, Ht⟩, Hu, HO, Hk⟩
  isplitl [Hk]
  · iintro ⟨Hb, Hpost⟩
    ihave Hpost := (show ((reg (fun c b => mem2 m c b) (fun c b => mem3 m c b) h1 h2).post d : sProp 𝕄) ⊢ iprop(unscopedBufs d (fun b => mem3 m d b) ∗ clear d) from .rfl) $$ Hpost
    icases Hpost with ⟨Hu, HO⟩
    rw [wp_ret]
    imodintro
    iapply Hk
    isplitl [Hb]; · iexact Hb
    isplitl [Hu] <;> iassumption
  isplitl [Hb]; · iexact Hb
  isplitl [Hu HO]
  · iapply (show iprop(unscopedBufs d (fun b => mem2 m d b) ∗ clear d) ⊢ ((reg (fun c b => mem2 m c b) (fun c b => mem3 m c b) h1 h2).pre d : sProp 𝕄) from .rfl)
    isplitl [Hu] <;> iassumption
  isplitr; · iapply ((K (F := F)).ctx_levAts κ); iexact Hctx
  isplitl [Hc]
  · ihave H := (Entails.of_eq (bigSep_univ_of_subsingleton (0 : Fin 1))) $$ Hc; iexact H
  · ihave H := (Entails.of_eq (bigSep_univ_of_subsingleton (0 : Fin 1))) $$ Ht; iexact H

/-- Past the call the thread's state holds its accounts clear of obligations, to be lent out and given back. -/
theorem tcSt_clear (d : Dev nD) :
    ((K (F := F)).tcSt EH d ((0 : Fin 1).val + 1) : sProp 𝕄) ⊢ iprop(clear (F := F) d ∗ (clear (F := F) d -∗ (K (F := F)).tcSt EH d 1)) := by
  show ((K (F := F)).tcSt EH d 1 : sProp 𝕄) ⊢ _
  unfold SparseCore.Cfg.tcSt
  rw [show (K (F := F)).Otc (N := 1) d 1 = 0 from (K (F := F)).Otc_end d le_rfl]
  unfold clear
  iintro ⟨⟨%W, %hW, HO⟩, Hr⟩
  isplitl [HO]
  · iexists W
    isplitr; · ipureintro; exact hW
    iexact HO
  iintro ⟨%W, %hW, HO⟩
  isplitl [HO]
  · iexists W
    isplitr; · ipureintro; exact hW
    iexact HO
  iexact Hr

theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Hv, Hk, Hc, Hd, Ho⟩, Hts, -⟩, HG⟩
  iapply ((K (F := F)).wp_run (D (F := F)) 𝒱 (EH := EH) (P := P m) κ d 0) $$ [Hst Hb Hx Hv Hk Hc Hd Ho Hts HG]
  isplitr; · iexact Hctx
  isplitl [Hst]; · iexact Hst
  isplitl [Hv Hk]
  · rw [st0_eq]
    isplitl [Hv] <;> iassumption
  iintro ⟨Hst, Hdn⟩
  ihave Hdn' := (Entails.of_eq (dn0_eq m d)) $$ Hdn
  icases Hdn' with ⟨Hv, Hk⟩
  ihave Hu := (Entails.of_eq (after_buckets m d).symm) $$ [Hx Hv Hk Hc Hd Ho]
  · isplitl [Hx]; · iexact Hx
    isplitl [Hv]; · iexact Hv
    isplitl [Hk]; · iexact Hk
    isplitl [Hc]; · iexact Hc
    isplitl [Hd] <;> iassumption
  ihave Hu := (Entails.of_eq (unscopedBufs_held d (mem1 m d))) $$ Hu
  iapply (StableHlo.wp_hlo_within 𝒱 (SparseCore.T d) none Set.univ (op := colOp (F := F)) (S := ucRefs τ sig) col_sub (V := mem1 m d)) $$ [Hb Hu]
  · isplitl [Hb] <;> iassumption
  iintro ⟨Hb, Hu⟩
  rw [wp_ret]
  imodintro
  ihave Hu := (Entails.of_eq (unscopedBufs_held d ((colOp (F := F)).result (mem1 m d))).symm) $$ Hu
  ihave Hst := (tcSt_clear d) $$ Hst
  icases Hst with ⟨HO, Hst⟩
  iapply (grid_call m κ d)
  isplitr; · iexact Hctx
  isplitl [Hb]; · iexact Hb
  isplitl [HG]; · iexact HG
  isplitl [Hu]; · iexact Hu
  isplitl [HO]; · iexact HO
  iintro ⟨Hb, Hu, HO⟩
  ihave Hst := Hst $$ HO
  ihave Hu := (Entails.of_eq (unscopedBufs_held d (mem3 m d))) $$ Hu
  iapply (StableHlo.wp_hlo_within 𝒱 (SparseCore.T d) none Set.univ (op := flatOp (F := F)) (S := ucRefs τ sig) flat_sub (V := mem3 m d)) $$ [Hb Hu]
  · isplitl [Hb] <;> iassumption
  iintro ⟨Hb, Hu⟩
  rw [wp_ret]
  imodintro
  ihave Hu := (show StableHlo.held (SparseCore.T d) (ucRefs τ sig) ((flatOp (F := F)).result (mem3 m d)) ⊢ (unscopedBufs d (fun b => mem4 m d b) : sProp 𝕄) from
    Entails.of_eq (unscopedBufs_held d (mem4 m d)).symm) $$ Hu
  ihave Hu := (Entails.of_eq (unscopedBufs_eq d fun b => mem4 m d b)) $$ Hu
  icases Hu with ⟨Hx, Hv, -, -, -, Ho⟩
  imodintro
  isplitl [Hst]; · iexact Hst
  isplitr [Hb Hts]
  · rw [mem4_arg0, mem4_arg1, mem4_out]
    isplitl [Hx]; · iexact Hx
    isplitl [Hv] <;> iassumption
  isplitl [Hb] <;> iassumption

/-! ## The final memory -/

def fq (d : Dev nD) (s' : Phys nD τ sig (Elt F)) : Prop :=
  s'.mem.mem ((SparseCore.T d).loc main_v3) = output (m ((SparseCore.T d).loc main_arg0)) (m (vLoc d))
    ∧ s'.mem.mem ((SparseCore.T d).loc main_arg0) = m ((SparseCore.T d).loc main_arg0) ∧ s'.mem.mem (vLoc d) = m (vLoc d)

theorem hfin (d : Dev nD) (s' : Phys nD τ sig (Elt F)) : iprop(FIN m d ∗ SI s') ⊢ (⌜fq m d s'⌝ : sProp 𝕄) := by
  iintro ⟨⟨Hx, Hv, Ho⟩, HSI⟩
  ihave H := (persistent_entails_right (SI_pointsTo_agree (st := s') (ℓ := (SparseCore.T d).loc main_arg0) (I := Finset.univ) (q := fullShare) (f := m ((SparseCore.T d).loc main_arg0)))) $$ [HSI Hx]
  · isplitl [HSI] <;> iassumption
  icases H with ⟨%h1, HSI, -⟩
  ihave H := (persistent_entails_right (SI_pointsTo_agree (st := s') (ℓ := vLoc d) (I := Finset.univ) (q := fullShare) (f := m (vLoc d)))) $$ [HSI Hv]
  · isplitl [HSI] <;> iassumption
  icases H with ⟨%h2, HSI, -⟩
  ihave H := (SI_pointsTo_agree (st := s') (ℓ := (SparseCore.T d).loc main_v3) (I := Finset.univ) (q := fullShare)
    (f := (output (m ((SparseCore.T d).loc main_arg0)) (m (vLoc d)) : Buf (Elt F) ((SparseCore.T d).loc main_v3)))) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-- Every execution of the program ends, with every counter at zero, the arguments as they were and the result at
    `output` of them. -/
theorem run_main : θ_run (Cert.KernelIdeal.defs (F := F)) (Cert.KernelIdeal.threads (F := F)) ⟨m, fun _ => 0, ρ⟩ fun r =>
    (∀ d : Dev nD, r.2.mem ((SparseCore.T d).loc main_v3) = output (m ((SparseCore.T d).loc main_arg0)) (m (vLoc d))
      ∧ r.2.mem ((SparseCore.T d).loc main_arg0) = m ((SparseCore.T d).loc main_arg0) ∧ r.2.mem (vLoc d) = m (vLoc d))
    ∧ r.2.sem = fun _ => 0 :=
  SparseCore.Cfg.θ_run_sc_quiescent (K := K (F := F)) (D := D (F := F)) (𝒱 := 𝒱) (EH := EH) (P := P m) (A := ∅) handshakes v₀
    (fun q hq => match q with | 0 => nomatch hq)
    (fun q _ => match q with | 0 => tileObl m)
    (fun q _ => match q with | 0 => SparseCore.Cfg.VecSplit.of_plain (vecSplit m))
    m ρ main (fun d => G (F := F) d) (FIN m) (u₀ (F := F)) (sep_elim_left.trans (launch_split m)) (hmain m ρ) (fq m) (hfin m) _ (fun _ h hz => ⟨h, hz⟩)

end Cert.Proof.Buckets

end
-- ==== Proof.Math.lean ====
/-
  The bucket of an extended real, and the number the kernel's lane computes for it.
-/
module

public import proofs.«01_k».proof.Proof.Sc
public import Idealize.ShloMosaic.PureOps.Ideal

@[expose] public section

namespace Cert.Proof.Math
open Idealize.ShloMosaic

/-! ## The constants of the two programs -/

theorem bits_neg_four : Ideal.ofBits .f32 0xC0800000#32 = ((-4 : ℝ) : EReal) := by
  simp [Ideal.ofBits, Ideal.ieee, -EReal.coe_mul, -EReal.coe_neg]; norm_num
theorem bits_four : Ideal.ofBits .f32 0x40800000#32 = ((4 : ℝ) : EReal) := by
  simp [Ideal.ofBits, Ideal.ieee, -EReal.coe_mul, -EReal.coe_neg]; norm_num
theorem bits_32 : Ideal.ofBits .f32 0x42000000#32 = ((32 : ℝ) : EReal) := by
  simp [Ideal.ofBits, Ideal.ieee, -EReal.coe_mul, -EReal.coe_neg]; norm_num
theorem bits_256 : Ideal.ofBits .f32 0x43800000#32 = ((256 : ℝ) : EReal) := by
  simp [Ideal.ofBits, Ideal.ieee, -EReal.coe_mul, -EReal.coe_neg]; norm_num
theorem bits_inv_32 : Ideal.ofBits .f32 0x3D000000#32 = ((1 / 32 : ℝ) : EReal) := by
  simp [Ideal.ofBits, Ideal.ieee, -EReal.coe_mul, -EReal.coe_neg]; norm_num
theorem bits_zero : Ideal.ofBits .f32 0x00000000#32 = ((0 : ℝ) : EReal) := by
  simp [Ideal.ofBits, Ideal.ieee]
theorem bits_one : Ideal.ofBits .f32 0x3F800000#32 = ((1 : ℝ) : EReal) := by
  simp [Ideal.ofBits, Ideal.ieee, -EReal.coe_mul, -EReal.coe_neg]; norm_num
theorem bits_bot : Ideal.ofBits .f32 0xFF800000#32 = (⊥ : EReal) := by
  simp [Ideal.ofBits, Ideal.ieee]

/-! ## Buckets -/

/-- The border number `n` of the buckets, `n / 32 - 4`. -/
noncomputable def border (n : ℕ) : ℝ := (n : ℝ) * (1 / 32) + -4

/-- How many borders, numbered from 0 without end, lie strictly below the extended real (257 stands for all). -/
noncomputable def height : EReal → ℕ
  | ⊥ => 0
  | ⊤ => 257
  | (r : ℝ) => ⌈32 * (r + 4)⌉₊

@[simp] theorem height_bot : height ⊥ = 0 := rfl
@[simp] theorem height_top : height ⊤ = 257 := rfl
@[simp] theorem height_coe (r : ℝ) : height (r : EReal) = ⌈32 * (r + 4)⌉₊ := rfl

/-- The bucket of an extended real: the last border strictly below it, kept within 0 and 255. -/
noncomputable def bucket (x : EReal) : ℕ := min 255 (height x - 1)

theorem bucket_le (x : EReal) : bucket x ≤ 255 := min_le_left _ _
theorem bucket_lt (x : EReal) : bucket x < 256 := Nat.lt_succ_of_le (bucket_le x)

/-- A border lies strictly below a value exactly when its number is below the value's height. -/
theorem border_lt_iff {n : ℕ} (hn : n < 257) (x : EReal) : (border n : EReal) < x ↔ n < height x := by
  induction x with
  | bot => simp
  | top => simp [hn, EReal.coe_lt_top]
  | coe r =>
    rw [EReal.coe_lt_coe_iff, height_coe, Nat.lt_ceil, border]
    constructor <;> intro h <;> linarith

/-- The height counted over the 257 borders. -/
theorem card_borders (x : EReal) :
    (Finset.univ.filter fun i : Fin 257 => (border i.val : EReal) < x).card = min 257 (height x) := by
  have e : (Finset.univ.filter fun i : Fin 257 => (border i.val : EReal) < x)
      = Finset.univ.filter fun i : Fin 257 => i.val < height x :=
    Finset.filter_congr fun i _ => border_lt_iff i.isLt x
  rw [e, Fin.card_filter_val_lt]

/-! ## The kernel's lane -/

/-- The clipped and scaled value: a real between 0 and 256. -/
noncomputable def scaled : EReal → ℝ
  | ⊥ => 0
  | ⊤ => 256
  | (r : ℝ) => max (min ((r - -4) * 32) 256) 0

theorem scaled_eq (x : EReal) :
    max (min ((x - ((-4 : ℝ) : EReal)) * ((32 : ℝ) : EReal)) ((256 : ℝ) : EReal)) ((0 : ℝ) : EReal)
      = (scaled x : EReal) := by
  induction x with
  | bot =>
    rw [show (⊥ : EReal) - ((-4 : ℝ) : EReal) = ⊥ from rfl, EReal.bot_mul_coe_of_pos (by norm_num), min_eq_left bot_le,
      max_eq_right bot_le]
    rfl
  | top =>
    rw [show (⊤ : EReal) - ((-4 : ℝ) : EReal) = ⊤ from rfl, EReal.top_mul_coe_of_pos (by norm_num), min_eq_right le_top,
      max_eq_left (EReal.coe_le_coe_iff.mpr (by norm_num))]
    rfl
  | coe r =>
    rw [← EReal.coe_sub, ← EReal.coe_mul, ← EReal.coe_strictMono.monotone.map_min,
      ← EReal.coe_strictMono.monotone.map_max]
    rfl

theorem scaled_nonneg (x : EReal) : 0 ≤ scaled x := by
  induction x with
  | bot => exact le_rfl
  | top => show (0 : ℝ) ≤ 256; norm_num
  | coe r => exact le_max_right _ _

theorem scaled_le (x : EReal) : scaled x ≤ 256 := by
  induction x with
  | bot => show (0 : ℝ) ≤ 256; norm_num
  | top => exact le_rfl
  | coe r => exact max_le (min_le_right _ _) (by norm_num)

/-- The first guess of the bucket: the scaled value rounded down, at most 255. -/
noncomputable def guess (x : EReal) : ℕ := min ⌊scaled x⌋₊ 255

theorem guess_le (x : EReal) : guess x ≤ 255 := min_le_right _ _

theorem floor_le (x : EReal) : ⌊scaled x⌋₊ ≤ 256 := by
  have h : ⌊scaled x⌋₊ ≤ ⌊(256 : ℝ)⌋₊ := Nat.floor_mono (scaled_le x)
  simpa using h

theorem fptosi_scaled (x : EReal) : Ideal.fptosi 32 (scaled x : EReal) = BitVec.ofNat 32 ⌊scaled x⌋₊ := by
  have h0 := scaled_nonneg x
  have hk := floor_le x
  have hc : (⌊scaled x⌋ : ℤ) = (⌊scaled x⌋₊ : ℤ) := (Int.natCast_floor_eq_floor h0).symm
  rw [Ideal.fptosi, Ideal.toIntClamped_coe, if_pos h0, hc]
  have : max (-((2 ^ (32 - 1) : ℕ) : ℤ)) (min (((2 ^ (32 - 1) : ℕ) : ℤ) - 1) ((⌊scaled x⌋₊ : ℕ) : ℤ))
      = ((⌊scaled x⌋₊ : ℕ) : ℤ) := by
    norm_num
    omega
  rw [this, BitVec.ofInt_natCast]

theorem toInt_small {n : ℕ} (hn : n ≤ 257) : (BitVec.ofNat 32 n).toInt = n := by
  rw [BitVec.toInt_eq_toNat_cond, BitVec.toNat_ofNat]
  have : n % 2 ^ 32 = n := Nat.mod_eq_of_lt (by omega)
  rw [this, if_pos (by omega)]

theorem slt_small {a b : ℕ} (ha : a ≤ 257) (hb : b ≤ 257) :
    (BitVec.ofNat 32 a).slt (BitVec.ofNat 32 b) = decide (a < b) := by
  rw [BitVec.slt, toInt_small ha, toInt_small hb]
  simp

theorem minsi_small {a b : ℕ} (ha : a ≤ 257) (hb : b ≤ 257) :
    IntOp.minsi (BitVec.ofNat 32 a) (BitVec.ofNat 32 b) = BitVec.ofNat 32 (min a b) := by
  rw [IntOp.minsi, slt_small ha hb]
  by_cases h : a < b
  · simp [h, min_eq_left h.le]
  · simp [h, min_eq_right (not_lt.mp h)]

/-- The step the lane takes from the guess `n`: one down if the value is not above the guess's border, one up if it is
    above the next. -/
noncomputable def settle (n : ℕ) (x : EReal) : ℕ :=
  n - (if x ≤ (border n : EReal) ∧ 0 < n then 1 else 0) + (if (border (n + 1) : EReal) < x ∧ n < 255 then 1 else 0)

theorem settle_guess (x : EReal) : settle (guess x) x = bucket x := by
  have hg := guess_le x
  have hdown : x ≤ (border (guess x) : EReal) ↔ height x ≤ guess x := by
    rw [← not_lt, border_lt_iff (by omega), not_lt]
  have hup : (border (guess x + 1) : EReal) < x ↔ guess x + 1 < height x := border_lt_iff (by omega) x
  unfold settle bucket
  rw [if_congr (and_congr_left' hdown) rfl rfl, if_congr (and_congr_left' hup) rfl rfl]
  have key : (guess x = 255 ∧ 256 ≤ height x) ∨ (height x ≤ guess x + 1 ∧ guess x ≤ height x) := by
    induction x with
    | bot =>
      right
      have : guess ⊥ = 0 := by show min ⌊(0 : ℝ)⌋₊ 255 = 0; simp
      simp [this]
    | top =>
      left
      have : guess ⊤ = 255 := by show min ⌊(256 : ℝ)⌋₊ 255 = 255; simp
      simp [this]
    | coe r =>
      have hgd : guess (r : EReal) = min ⌊max (min ((r - -4) * 32) 256) 0⌋₊ 255 := rfl
      rw [hgd, height_coe]
      set y : ℝ := 32 * (r + 4) with hy
      have e : (r - -4) * 32 = y := by rw [hy]; ring
      rw [e]
      rcases le_or_gt y 0 with h | h
      · right
        rw [min_eq_left (show y ≤ 256 by linarith), max_eq_right h, Nat.ceil_eq_zero.mpr h]
        simp
      · have hfc : ⌊y⌋₊ ≤ ⌈y⌉₊ := Nat.floor_le_ceil y
        have hcf : ⌈y⌉₊ ≤ ⌊y⌋₊ + 1 := Nat.ceil_le_floor_add_one y
        rcases le_or_gt 256 y with h2 | h2
        · have hc : (256 : ℕ) ≤ ⌈y⌉₊ := by
            have := Nat.ceil_mono h2
            simpa using this
          left
          rw [min_eq_right h2, max_eq_left (by norm_num)]
          exact ⟨by simp, hc⟩
        · rw [min_eq_left h2.le, max_eq_left h.le]
          have hlt : ⌊y⌋₊ < 256 := by
            rw [Nat.floor_lt h.le]; exact_mod_cast h2
          right
          rw [min_eq_left (by omega)]
          exact ⟨hcf, hfc⟩
  rcases key with ⟨h1, h2⟩ | ⟨h1, h2⟩ <;> split_ifs <;> omega

/-- The lane's arithmetic on the ideal floats, written out. -/
theorem bk_unfold (x : EReal) :
    Cert.Proof.Buckets.bk (F := Ideal) x
      = (let y := max (min ((x - Ideal.ofBits .f32 0xC0800000#32) * Ideal.ofBits .f32 0x42000000#32)
            (Ideal.ofBits .f32 0x43800000#32)) (Ideal.ofBits .f32 0x00000000#32)
         let k := IntOp.minsi (Ideal.fptosi 32 y) 255#32
         let b := (((k.toInt : ℝ) : EReal)) * Ideal.ofBits .f32 0x3D000000#32 + Ideal.ofBits .f32 0xC0800000#32
         let down := IntOp.andi (Ideal.cmp .oge b x) (IntOp.cmpi .sgt k 0#32)
         let up := IntOp.andi (Ideal.cmp .olt (b + Ideal.ofBits .f32 0x3D000000#32) x) (IntOp.cmpi .slt k 255#32)
         k - Scalar.select down 1#32 0#32 + Scalar.select up 1#32 0#32) := rfl

theorem select_ofBool (p q : Bool) :
    Scalar.select (IntOp.andi (BitVec.ofBool p) (BitVec.ofBool q)) 1#32 0#32
      = BitVec.ofNat 32 (if p = true ∧ q = true then 1 else 0) := by
  cases p <;> cases q <;> rfl

/-- The lane computes the bucket. -/
theorem bk_eq (x : EReal) : Cert.Proof.Buckets.bk (F := Ideal) x = BitVec.ofNat 32 (bucket x) := by
  have hg := guess_le x
  rw [bk_unfold, bits_neg_four, bits_32, bits_256, bits_inv_32, bits_zero, scaled_eq]
  dsimp only
  rw [fptosi_scaled, minsi_small ((floor_le x).trans (by norm_num)) (by norm_num)]
  rw [show min ⌊scaled x⌋₊ 255 = guess x from rfl, toInt_small (by omega)]
  have hb : (((((guess x : ℕ) : ℤ) : ℝ) : EReal)) * ((1 / 32 : ℝ) : EReal) + ((-4 : ℝ) : EReal)
      = ((border (guess x) : ℝ) : EReal) := by
    rw [← EReal.coe_mul, ← EReal.coe_add, Int.cast_natCast]
    rfl
  have hb1 : ((border (guess x) : ℝ) : EReal) + ((1 / 32 : ℝ) : EReal) = ((border (guess x + 1) : ℝ) : EReal) := by
    rw [← EReal.coe_add]
    congr 1
    unfold border
    push_cast
    ring
  rw [hb, hb1]
  unfold IntOp.cmpi Ideal.cmp
  dsimp only
  rw [show (BitVec.ofNat 32 (guess x)).slt 255#32 = decide (guess x < 255) from slt_small (by omega) (by norm_num),
    show (0#32).slt (BitVec.ofNat 32 (guess x)) = decide (0 < guess x) from slt_small (by norm_num) (by omega), select_ofBool, select_ofBool, ← settle_guess]
  unfold settle
  simp only [decide_eq_true_eq]
  by_cases hd : x ≤ ((border (guess x) : ℝ) : EReal) ∧ 0 < guess x
  · rw [if_pos hd]
    have h1 : 1 ≤ guess x := hd.2
    rw [BitVec.ofNat_add, ← BitVec.ofNat_sub_ofNat_of_le _ _ (by norm_num) h1]
  · rw [if_neg hd, Nat.sub_zero, BitVec.ofNat_add, BitVec.sub_zero]

end Cert.Proof.Math

end
-- ==== Proof.Softmax.lean ====
/-
  The logarithm of a softmax on the extended reals: taking the row's maximum away first changes nothing.
-/
module

public import Idealize.ShloMosaic.PureOps.Ideal

@[expose] public section

namespace Cert.Proof.Math
open Idealize.ShloMosaic

variable {ι : Type} [Fintype ι]

theorem exp_nonneg (x : EReal) : 0 ≤ Ideal.exp x := by
  induction x with
  | bot => simp
  | top => simp
  | coe r => rw [Ideal.exp_coe]; exact EReal.coe_nonneg.mpr (Real.exp_pos r).le

/-- The exponential of a value below `⊤`, as a real. -/
noncomputable def expReal (x : EReal) : ℝ := (Ideal.exp x).toReal

theorem exp_eq {x : EReal} (hx : x ≠ ⊤) : Ideal.exp x = (expReal x : EReal) := by
  induction x with
  | bot => simp [expReal]
  | top => exact absurd rfl hx
  | coe r => rw [expReal, Ideal.exp_coe, EReal.toReal_coe]

theorem expReal_nonneg (x : EReal) : 0 ≤ expReal x := EReal.toReal_nonneg (exp_nonneg x)

theorem expReal_pos {x : EReal} (hx : x ≠ ⊤) (hb : x ≠ ⊥) : 0 < expReal x := by
  induction x with
  | bot => exact absurd rfl hb
  | top => exact absurd rfl hx
  | coe r => rw [expReal, Ideal.exp_coe, EReal.toReal_coe]; exact Real.exp_pos r

theorem exp_shift {x : EReal} (hx : x ≠ ⊤) (m : ℝ) :
    Ideal.exp (x - (m : EReal)) = ((expReal x * Real.exp (-m) : ℝ) : EReal) := by
  induction x with
  | bot => rw [show (⊥ : EReal) - (m : EReal) = ⊥ from rfl]; simp [expReal]
  | top => exact absurd rfl hx
  | coe r =>
    rw [← EReal.coe_sub, Ideal.exp_coe, expReal, Ideal.exp_coe, EReal.toReal_coe, sub_eq_add_neg, Real.exp_add]

theorem coe_sum (f : ι → ℝ) : ∑ i, (f i : EReal) = ((∑ i, f i : ℝ) : EReal) :=
  (map_sum (⟨⟨((↑) : ℝ → EReal), EReal.coe_zero⟩, EReal.coe_add⟩ : ℝ →+ EReal) f Finset.univ).symm

/-- A row's values minus its maximum, minus the logarithm of the sum of their exponentials, is the value minus the
    logarithm of the sum of the exponentials. -/
theorem log_softmax (f : ι → EReal) (b : ι) :
    (f b - Finset.univ.fold max ⊥ f) - Ideal.log (0 + ∑ l, Ideal.exp (f l - Finset.univ.fold max ⊥ f))
      = f b - Ideal.log (∑ l, Ideal.exp (f l)) := by
  set M := Finset.univ.fold max ⊥ f with hM
  rw [zero_add]
  by_cases htop : ∃ l, f l = ⊤
  · obtain ⟨l, hl⟩ := htop
    have hMt : M = ⊤ := top_le_iff.mp (Finset.le_fold_max ⊤ |>.mpr (Or.inr ⟨l, Finset.mem_univ l, hl.ge⟩))
    have hS : ∑ i, Ideal.exp (f i) = ⊤ := by
      refine top_le_iff.mp ?_
      have h1 : Ideal.exp (f l) ≤ ∑ i, Ideal.exp (f i) :=
        Finset.single_le_sum (f := fun i => Ideal.exp (f i)) (fun i _ => exp_nonneg (f i)) (Finset.mem_univ l)
      rwa [hl, Ideal.exp_top] at h1
    rw [hMt, hS, Ideal.log_top]
    simp only [EReal.sub_top]
    rw [sub_eq_add_neg, EReal.bot_add]
  · have ht : ∀ l, f l ≠ ⊤ := fun l h => htop ⟨l, h⟩
    by_cases hbot : ∀ l, f l = ⊥
    · rw [hbot b]
      simp only [sub_eq_add_neg, EReal.bot_add]
    · obtain ⟨l₀, h₀⟩ := not_forall.mp hbot
      have hMt : M ≠ ⊤ := (Finset.fold_max_lt ⊤ |>.mpr ⟨bot_lt_top, fun l _ => lt_top_iff_ne_top.mpr (ht l)⟩).ne
      have hMb : M ≠ ⊥ := fun h => h₀ (le_bot_iff.mp (h ▸ (Finset.le_fold_max (f l₀) |>.mpr
        (Or.inr ⟨l₀, Finset.mem_univ _, le_rfl⟩))))
      obtain ⟨m, hm⟩ : ∃ m : ℝ, M = (m : EReal) := ⟨M.toReal, (EReal.coe_toReal hMt hMb).symm⟩
      have hS : 0 < ∑ l, expReal (f l) :=
        Finset.sum_pos' (fun l _ => expReal_nonneg _) ⟨l₀, Finset.mem_univ _, expReal_pos (ht l₀) h₀⟩
      have e1 : ∑ l, Ideal.exp (f l) = ((∑ l, expReal (f l) : ℝ) : EReal) := by
        rw [← coe_sum]; exact Finset.sum_congr rfl fun l _ => exp_eq (ht l)
      have e2 : ∑ l, Ideal.exp (f l - M) = (((∑ l, expReal (f l)) * Real.exp (-m) : ℝ) : EReal) := by
        rw [Finset.sum_mul, ← coe_sum, hm]; exact Finset.sum_congr rfl fun l _ => exp_shift (ht l) m
      have hP : 0 < (∑ l, expReal (f l)) * Real.exp (-m) := mul_pos hS (Real.exp_pos _)
      rw [e1, e2, hm, Ideal.log_coe, Ideal.log_coe, if_neg hS.not_ge, if_neg hP.not_ge,
        Real.log_mul hS.ne' (Real.exp_pos _).ne', Real.log_exp]
      rcases eq_or_ne (f b) ⊥ with hb | hb
      · rw [hb]
        simp only [sub_eq_add_neg, EReal.bot_add]
      · rw [← EReal.coe_toReal (ht b) hb, ← EReal.coe_sub, ← EReal.coe_sub, ← EReal.coe_sub]
        congr 1
        ring

/-- The maximum of a row of which all but one value are put at `⊥` is that value. -/
theorem fold_max_pick (f : ι → EReal) (b : ι) (p : ι → BitVec 1) (hp : ∀ l, p l = 1#1 ↔ l = b) :
    Finset.univ.fold max ⊥ (fun l => Scalar.select (p l) (f l) ⊥) = f b := by
  refine le_antisymm (Finset.fold_max_le _ |>.mpr ⟨bot_le, fun l _ => ?_⟩)
    (Finset.le_fold_max _ |>.mpr (Or.inr ⟨b, Finset.mem_univ b, ?_⟩))
  · unfold Scalar.select
    by_cases h : p l = 1
    · rw [if_pos h, (hp l).mp h]
    · rw [if_neg h]; exact bot_le
  · show f b ≤ if p b = 1 then f b else ⊥
    rw [if_pos (show p b = 1 from (hp b).mpr rfl)]

end Cert.Proof.Math

end
-- ==== Proof.Value.lean ====
/-
  What the kernel leaves at a position, on the ideal floats.
-/
module

public import proofs.«01_k».proof.Proof.Run
public import proofs.«01_k».proof.Proof.Math
public import proofs.«01_k».proof.Proof.Softmax
public import Idealize.ShloMosaic.Lib.Pointwise
public import Idealize.ShloMosaic.Lib.MatmulPlain

@[expose] public section

namespace Cert.Proof.Math
open Idealize.ShloMosaic Cert.KernelIdeal Cert.KernelIdeal.Gen

/-- The value both programs compute: at the bucket of the row's number, the row's entry minus the logarithm of the sum of
    the row's exponentials, minus the logarithm of a bucket's width. -/
noncomputable def score (f : Fin 256 → EReal) (v : EReal) : EReal :=
  f ⟨bucket v, bucket_lt v⟩ - Ideal.log (∑ l, Ideal.exp (f l)) - Ideal.log ((1 / 32 : ℝ) : EReal)

theorem eq_word_iff {b : ℕ} (hb : b < 256) (l : Fin 256) :
    IntOp.cmpi .eq (BitVec.ofNat 32 l.val) (BitVec.ofNat 32 b) = 1#1 ↔ l = ⟨b, hb⟩ := by
  have hinj : BitVec.ofNat 32 l.val = BitVec.ofNat 32 b ↔ l.val = b := by
    constructor
    · intro h
      have h2 := congrArg BitVec.toNat h
      rw [BitVec.toNat_ofNat, BitVec.toNat_ofNat, Nat.mod_eq_of_lt (by omega), Nat.mod_eq_of_lt (by omega)] at h2
      exact h2
    · intro h; rw [h]
  rw [Fin.ext_iff, ← hinj]
  unfold IntOp.cmpi
  by_cases h : BitVec.ofNat 32 l.val = BitVec.ofNat 32 b
  · simp [h]
  · dsimp only
    rw [beq_eq_false_iff_ne.mpr h]
    simp [h]

/-- The payload's one-hot rows: the entry where the column's number is the row's bucket, `⊥` elsewhere. -/
noncomputable def picked (x : S8192x256.Idx → EReal) (k : S8192x1.Idx → BitVec 32) : S8192x256.Idx → EReal :=
  select (cmpi .eq (iota .tc S8192x256 32 [1] iota_S8192x256_d1_w32)
      (broadcastTo S8192x256 (shapeCast S8192x1 k shapeCasts_S8192x1_S8192x1) broadcasts_S8192x1_S8192x256)) x
    (broadcast S8192x256 (Ideal.ofBits .f32 0xFF800000#32))

theorem picked_apply (x : S8192x256.Idx → EReal) (k : S8192x1.Idx → BitVec 32) (r : Fin 8192) (l : Fin 256) :
    picked x k (ix2 r l) = Scalar.select (IntOp.cmpi .eq (BitVec.ofNat 32 l.val) (k (ix2 r 0))) (x (ix2 r l))
      (Ideal.ofBits .f32 0xFF800000#32) := by
  pointwise [picked]

/-- A matrix's row maxima, for any size, read at a row. -/
theorem rows_max {n m : ℕ} (y : (⟨2, ![n, m]⟩ : Shape).Idx → EReal) (w : BitVec 32) (h : (⟨2, ![n, m]⟩ : Shape).Reduces [1] ⟨1, ![n]⟩)
    (hf : FKind.Formats .f32) (hw : w = FKind.maximumf.neutral .f32 hf) (r : Fin n) :
    multiReduction (F := Ideal) .maximumf [1] ⟨1, ![n]⟩ y w h hf hw (ix1 r)
      = Finset.univ.fold max (Ideal.ofBits .f32 w) fun l : Fin m => y (ix2 r l) := by
  rw [multiReduction_maximumf_eq_fold, Shape.Reduces.fold_fiber_r2_a1]
  rfl

/-- A vector seen as a column. -/
theorem column_apply (y : S8192.Idx → EReal) (r : Fin 8192) :
    shapeCast S8192x1 y shapeCasts_S8192_S8192x1 (ix2 r 0) = y (ix1 r) := by
  pointwise

/-- A product with a column of ones sums each row, for any size. -/
theorem ones_rows {n m : ℕ} (y : FVec Ideal ⟨2, ![n, m]⟩ .f32) (r : Fin n) :
    FloatOps.matmul (F := Ideal) (DotDims.plain n m 1) none y (fun _ => Ideal.ofBits .f32 0x3F800000#32)
        (fun _ => Ideal.ofBits .f32 0x00000000#32) (ix2 r 0)
      = ∑ l : Fin m, y (ix2 r l) := by
  refine (Ideal.matmul_plain_apply (M := n) (K := m) (N := 1) none y _ _ r 0).trans ?_
  simp only [Ideal.ofBits_zero_f32, Ideal.ofBits_one_f32, mul_one, zero_add]
  rfl

/-- The printed dimension numbers are the plain product's. -/
theorem dims_eq : dot_S8192x256_S256x1_S8192x1_1_0_0_1_n_n = DotDims.plain 8192 256 1 := rfl

/-- The payload's product with its column of ones, at a row. -/
theorem ones_apply (y : S8192x256.Idx → EReal) (r : Fin 8192) :
    matmul (F := Ideal) (φ₁ := .f32) (φ₂ := .f32) dot_S8192x256_S256x1_S8192x1_1_0_0_1_n_n none y
        (broadcast S256x1 (Ideal.ofBits .f32 0x3F800000#32)) (constant S8192x1 .f32 0x00000000#32) (ix2 r 0)
      = ∑ l : Fin 256, y (ix2 r l) := by
  rw [dims_eq]
  exact ones_rows (n := 8192) (m := 256) y r

/-- A difference of a vector, a logarithm and a constant, at an index of any shape. -/
theorem sub_log_apply {s : Shape} (a b : FVec Ideal s .f32) (w : Ideal .f32) (i : s.Idx) :
    subf (F := Ideal) (subf (F := Ideal) a (log (F := Ideal) b)) (broadcast s (Scalar.log (F := Ideal) w)) i
      = a i - Ideal.log (b i) - Ideal.log w := rfl

/-- The payload, with its one-hot rows named. -/
theorem pay_eq (x : S8192x256.Idx → EReal) (k : S8192x1.Idx → BitVec 32) :
    Cert.KernelIdeal.Gen.k1_pay1 (F := Ideal) x k
      = subf (F := Ideal) (φ := .f32) (subf (F := Ideal) (φ := .f32)
          (shapeCast S8192x1 (multiReduction (F := Ideal) (φ := .f32) .maximumf [1] S8192 (picked x k) 0xFF800000#32 reduces_S8192x256_S8192 (.inl rfl) rfl)
            shapeCasts_S8192_S8192x1)
          (log (F := Ideal) (φ := .f32) (matmul (F := Ideal) (φ₁ := .f32) (φ₂ := .f32) dot_S8192x256_S256x1_S8192x1_1_0_0_1_n_n none
            (exp (F := Ideal) (φ := .f32) x) (broadcast S256x1 (Scalar.ofBits (F := Ideal) .f32 0x3F800000#32)) (constant S8192x1 .f32 0x00000000#32))))
          (broadcast S8192x1 (Scalar.log (F := Ideal) (φ := .f32) (Scalar.ofBits (F := Ideal) .f32 0x3D000000#32))) := rfl

/-- The dense kernel's payload at a row. -/
theorem k1_apply (x : S8192x256.Idx → EReal) (k : S8192x1.Idx → BitVec 32) (r : Fin 8192) :
    Cert.KernelIdeal.Gen.k1_pay1 (F := Ideal) x k (ix2 r 0)
      = Finset.univ.fold max (Ideal.ofBits .f32 0xFF800000#32) (fun l : Fin 256 =>
            Scalar.select (IntOp.cmpi .eq (BitVec.ofNat 32 l.val) (k (ix2 r 0))) (x (ix2 r l)) (Ideal.ofBits .f32 0xFF800000#32))
          - Ideal.log (∑ l : Fin 256, Ideal.exp (x (ix2 r l))) - Ideal.log (Ideal.ofBits .f32 0x3D000000#32) := by
  have m := rows_max (n := 8192) (m := 256) (picked x k) 0xFF800000#32 reduces_S8192x256_S8192 (.inl rfl) rfl r
  simp only [picked_apply] at m
  have c := (column_apply (multiReduction (F := Ideal) (φ := .f32) .maximumf [1] S8192 (picked x k) 0xFF800000#32
    reduces_S8192x256_S8192 (.inl rfl) rfl) r).trans m
  have o := ones_apply (fun i => Ideal.exp (x i)) r
  refine (congrFun (pay_eq x k) (ix2 r 0)).trans ((sub_log_apply _ _ _ _).trans ?_)
  exact congrArg₂ (fun s t => s - Ideal.log t - Ideal.log (Ideal.ofBits .f32 0x3D000000#32)) c o

/-- A row whose number is a bucket's word leaves the score. -/
theorem k1_score (x : S8192x256.Idx → EReal) (k : S8192x1.Idx → BitVec 32) (r : Fin 8192) (v : EReal)
    (hk : k (ix2 r 0) = BitVec.ofNat 32 (bucket v)) :
    Cert.KernelIdeal.Gen.k1_pay1 (F := Ideal) x k (ix2 r 0) = score (fun l => x (ix2 r l)) v := by
  rw [k1_apply, hk, bits_bot, bits_inv_32, fold_max_pick (fun l => x (ix2 r l)) ⟨bucket v, bucket_lt v⟩ _
    (eq_word_iff (bucket_lt v))]
  rfl

end Cert.Proof.Math

end
-- ==== Proof.RefGrid.lean ====
/-
  The reference's borders and bucket numbers, read at a position.
-/
module

public import proofs.«01_k».proof.Proof.Gen.ReferenceIdeal.Run
public import proofs.«01_k».proof.Proof.Math
public import Idealize.ShloMosaic.Lib.Pointwise
public import Idealize.ShloMosaic.Lib.IndicatorCount

@[expose] public section

namespace Cert.Proof.Ref
open Idealize.ShloMosaic Cert.ReferenceIdeal Cert.ReferenceIdeal.Gen Cert.Proof.Math

/-- The reference's fractions `i / 256`. -/
noncomputable def frac : S256.Idx → EReal :=
  Host.divf (F := Ideal) (sitofp .f32 (iotaInDim S256 32 0)) (broadcastInDim S256 ![] bcast_S_S256 (constant S_ .f32 0x43800000#32))

/-- The reference's borders but the last. -/
noncomputable def inner : S256.Idx → EReal :=
  addf (F := Ideal) (φ := .f32) (mulf (broadcastInDim S256 ![0] bcast_S1_S256_0 (shapeCast _ (id (constant S_ .f32 0xC0800000#32)) shapeCasts_S_S1))
      (subf (broadcastInDim S256 ![] bcast_S_S256 (constant S_ .f32 0x3F800000#32)) frac))
    (mulf (broadcastInDim S256 ![0] bcast_S1_S256_0 (shapeCast _ (id (constant S_ .f32 0x40800000#32)) shapeCasts_S_S1)) frac)

/-- The reference's borders. -/
noncomputable def grid : S257.Idx → EReal :=
  concatenate S257 0 [⟨S256, inner⟩,
    ⟨S1, broadcastInDim S1 ![] bcast_S_S1 (id (constant (F := Ideal) S_ .f32 0x40800000#32))⟩] concatenates_S256_S1_S257_d0

/-- How many borders the reference finds strictly below each value. -/
noncomputable def cnt (v : S524288.Idx → EReal) : S524288.Idx → BitVec 32 :=
  Host.reduce IntOp.addi (extui 32 (cmpf (F := Ideal) (φ := .f32) .olt
      (broadcastInDim S524288x257 ![0, 1] bcast_S1x257_S524288x257_0_1 (broadcastInDim S1x257 ![1] bcast_S257_S1x257_1 grid))
      (broadcastInDim S524288x257 ![0, 1] bcast_S524288x1_S524288x257_0_1 (broadcastInDim S524288x1 ![0] bcast_S524288_S524288x1_0 v)))
      natLt_1_32) (constantI S_ 32 0#32) reducesTo_S524288x257_S524288_d1 h_S_

/-- The reference's bucket numbers. -/
noncomputable def idx (v : S524288.Idx → EReal) : S524288.Idx → BitVec 32 :=
  minsi (broadcastInDim S524288 ![] bcast_S_S524288 (id (constantI S_ 32 255#32)))
    (maxsi (broadcastInDim S524288 ![] bcast_S_S524288 (id (constantI S_ 32 0#32)))
      (subi (cnt v) (broadcastInDim S524288 ![] bcast_S_S524288 (constantI S_ 32 1#32))))

theorem frac_apply (i : Fin 256) : frac (ix1 i) = (((i.val : ℝ) * (1 / 256) : ℝ) : EReal) := by
  have h : frac (ix1 i) = Ideal.div ((((BitVec.ofNat 32 i.val).toInt : ℝ) : EReal)) (Ideal.ofBits .f32 0x43800000#32) := by
    pointwise [frac]
    rfl
  rw [h, bits_256, Ideal.div_coe (by norm_num), toInt_small (by omega), ← EReal.coe_mul, Int.cast_natCast]

theorem inner_apply (i : Fin 256) : inner (ix1 i) = (border i.val : EReal) := by
  have h : inner (ix1 i) = Ideal.ofBits .f32 0xC0800000#32 * (Ideal.ofBits .f32 0x3F800000#32 - frac (ix1 i))
      + Ideal.ofBits .f32 0x40800000#32 * frac (ix1 i) := rfl
  rw [h, frac_apply, bits_neg_four, bits_one, bits_four, ← EReal.coe_sub, ← EReal.coe_mul, ← EReal.coe_mul, ← EReal.coe_add]
  congr 1
  unfold border
  ring

theorem grid_apply (i : Fin 257) : grid (ix1 i) = (border i.val : EReal) := by
  have h : grid (ix1 i) = if h : i.val < 256 then inner (ix1 ⟨i.val, h⟩) else Ideal.ofBits .f32 0x40800000#32 := by
    pointwise [grid]
    rfl
  rw [h]
  split
  · rw [inner_apply]
  · have hi : i.val = 256 := by omega
    rw [hi, bits_four]
    congr 1
    unfold border
    norm_num

theorem cnt_apply (v : S524288.Idx → EReal) (j : Fin 524288) : cnt v (ix1 j) = BitVec.ofNat 32 (min 257 (height (v (ix1 j)))) := by
  have h : cnt v (ix1 j) = (Finset.univ : Finset (Fin 257)).fold IntOp.addi 0#32
      (fun i => (Ideal.cmp .olt (grid (ix1 i)) (v (ix1 j))).setWidth 32) := by
    unfold cnt
    rw [Host.reduce_eq_fold, Shape.ReducesTo.fold_fiber_r2_a1]
    refine Finset.fold_congr fun i _ => ?_
    pointwise
  rw [h, IndicatorCount.fold_addi_setWidth_eq_card, ← card_borders]
  refine congrArg (fun s : Finset (Fin 257) => BitVec.ofNat 32 s.card) (Finset.filter_congr fun i _ => ?_)
  rw [grid_apply]
  unfold Ideal.cmp
  by_cases hb : (border i.val : EReal) < v (ix1 j) <;> simp [hb]

theorem idx_apply (v : S524288.Idx → EReal) (j : Fin 524288) : idx v (ix1 j) = BitVec.ofNat 32 (bucket (v (ix1 j))) := by
  have h : idx v (ix1 j) = IntOp.minsi 255#32 (IntOp.maxsi 0#32 (IntOp.subi (cnt v (ix1 j)) 1#32)) := rfl
  rw [h, cnt_apply]
  unfold bucket
  rcases Nat.eq_zero_or_pos (height (v (ix1 j))) with h0 | h0
  · rw [h0]; decide
  · have hs : IntOp.subi (BitVec.ofNat 32 (min 257 (height (v (ix1 j))))) 1#32
        = BitVec.ofNat 32 (min 257 (height (v (ix1 j))) - 1) := by
      unfold IntOp.subi
      exact BitVec.ofNat_sub_ofNat_of_le _ 1 (by norm_num) (by omega)
    have hm : IntOp.maxsi 0#32 (BitVec.ofNat 32 (min 257 (height (v (ix1 j))) - 1))
        = BitVec.ofNat 32 (min 257 (height (v (ix1 j))) - 1) := by
      unfold IntOp.maxsi
      rw [show (0#32 : BitVec 32) = BitVec.ofNat 32 0 from rfl, slt_small (by omega) (by norm_num)]
      simp
    rw [hs, hm, show (255#32 : BitVec 32) = BitVec.ofNat 32 255 from rfl, minsi_small (by norm_num) (by omega)]
    exact congrArg (BitVec.ofNat 32) (by omega)

end Cert.Proof.Ref

end
-- ==== Proof.RefSoft.lean ====
/-
  The reference's logarithms of the softmax, read at a position.
-/
module

public import proofs.«01_k».proof.Proof.RefGrid
public import proofs.«01_k».proof.Proof.Softmax

@[expose] public section

namespace Cert.Proof.Ref
open Idealize.ShloMosaic Cert.ReferenceIdeal Cert.ReferenceIdeal.Gen Cert.Proof.Math

/-- The reference's row maxima. -/
noncomputable def top (x : S524288x256.Idx → EReal) : S524288.Idx → EReal :=
  maximumf (F := Ideal) (φ := .f32) (broadcastInDim S524288 ![] bcast_S_S524288 (constant S_ .f32 0xFF800000#32))
    (Host.reduce (FloatOps.maximumf (F := Ideal) (φ := .f32)) x (constant (F := Ideal) S_ .f32 0xFF800000#32) reducesTo_S524288x256_S524288_d1 h_S_)

/-- The reference's rows with their maximum taken away. -/
noncomputable def shifted (x : S524288x256.Idx → EReal) : S524288x256.Idx → EReal :=
  subf (F := Ideal) (φ := .f32) x (broadcastInDim S524288x256 ![0, 1] bcast_S524288x1_S524288x256_0_1 (broadcastInDim S524288x1 ![0] bcast_S524288_S524288x1_0 (top x)))

/-- The reference's sums of the shifted rows' exponentials. -/
noncomputable def total (x : S524288x256.Idx → EReal) : S524288.Idx → EReal :=
  Host.reduceAdd (F := Ideal) (φ := .f32) (Host.exp (F := Ideal) (φ := .f32) (shifted x)) (constant S_ .f32 0x00000000#32) reducesTo_S524288x256_S524288_d1 h_S_

/-- The reference's logarithms of the softmax. -/
noncomputable def logp (x : S524288x256.Idx → EReal) : S524288x256.Idx → EReal :=
  subf (F := Ideal) (φ := .f32) (shifted x) (broadcastInDim S524288x256 ![0, 1] bcast_S524288x1_S524288x256_0_1
    (Host.log (F := Ideal) (φ := .f32) (broadcastInDim S524288x1 ![0] bcast_S524288_S524288x1_0 (total x))))

/-- A row maximum of a matrix of any size, read at a row. -/
theorem row_max {n k : ℕ} {u : Shape} (x : (⟨2, ![n, k]⟩ : Shape).Idx → EReal) (init : u.Idx → EReal)
    (h : (⟨2, ![n, k]⟩ : Shape).ReducesTo [1] ⟨1, ![n]⟩) (hu : 0 < u.numel) (j : Fin n) :
    Host.reduce (FloatOps.maximumf (F := Ideal) (φ := .f32)) x init h hu (ix1 j)
      = Finset.univ.fold max (init (Shape.Idx.first hu)) fun l : Fin k => x (ix2 j l) := by
  rw [Host.reduce_eq_fold, Shape.ReducesTo.fold_fiber_r2_a1]
  rfl

/-- A vector of one constant beside another vector, the greater of the two at a position. -/
theorem max_fill {s : Shape} (h : (⟨0, ![]⟩ : Shape).BroadcastsInDim s ![]) (w : BitVec 32) (y : s.Idx → EReal) (i : s.Idx) :
    maximumf (F := Ideal) (φ := .f32) (broadcastInDim s ![] h (constant ⟨0, ![]⟩ .f32 w)) y i = max (Ideal.ofBits .f32 w) (y i) := rfl

theorem top_apply (x : S524288x256.Idx → EReal) (j : Fin 524288) :
    top x (ix1 j) = Finset.univ.fold max ⊥ fun l : Fin 256 => x (ix2 j l) := by
  have hb : constant (F := Ideal) S_ .f32 0xFF800000#32 (Shape.Idx.first h_S_) = ⊥ := bits_bot
  unfold top
  refine (max_fill (s := ⟨1, ![524288]⟩) _ _ _ (ix1 j)).trans ?_
  rw [bits_bot, max_eq_right bot_le]
  refine (row_max (n := 524288) (k := 256) x _ _ _ j).trans ?_
  rw [hb]

theorem shifted_apply (x : S524288x256.Idx → EReal) (j : Fin 524288) (l : Fin 256) :
    shifted x (ix2 j l) = x (ix2 j l) - Finset.univ.fold max ⊥ fun l : Fin 256 => x (ix2 j l) := by
  rw [← top_apply]
  pointwise [shifted]

theorem total_apply (x : S524288x256.Idx → EReal) (j : Fin 524288) :
    total x (ix1 j) = 0 + ∑ l : Fin 256, Ideal.exp (x (ix2 j l) - Finset.univ.fold max ⊥ fun l : Fin 256 => x (ix2 j l)) := by
  have h : total x (ix1 j) = Ideal.ofBits .f32 0x00000000#32 + ∑ l : Fin 256, Ideal.exp (shifted x (ix2 j l)) :=
    Ideal.hostReduceAdd_r2_a1 reducesTo_S524288x256_S524288_d1 _ _ (ix1 j)
  rw [h, bits_zero, EReal.coe_zero]
  simp only [shifted_apply]

theorem logp_apply (x : S524288x256.Idx → EReal) (j : Fin 524288) (b : Fin 256) :
    logp x (ix2 j b) = x (ix2 j b) - Ideal.log (∑ l : Fin 256, Ideal.exp (x (ix2 j l))) := by
  have h : logp x (ix2 j b) = shifted x (ix2 j b) - Ideal.log (total x (ix1 j)) := by
    pointwise [logp]
  rw [h, shifted_apply, total_apply]
  exact log_softmax (fun l => x (ix2 j l)) b

end Cert.Proof.Ref

end
-- ==== Proof.Ref.lean ====
/-
  The reference's result, read at a position.
-/
module

public import proofs.«01_k».proof.Proof.RefSoft
public import Idealize.ShloMosaic.Lib.ReduceAll
public import Idealize.ShloMosaic.Lib.Routing.OpsSet

@[expose] public section

namespace Cert.Proof.Ref
open Idealize.ShloMosaic Cert.ReferenceIdeal Cert.ReferenceIdeal.Gen Cert.Proof.Math

/-! ## The takes -/

/-- A bucket number is not negative, and not above 255. -/
theorem not_neg {b : ℕ} (hb : b < 256) : IntOp.cmpi .slt (BitVec.ofNat 32 b) 0#32 = 0#1 := by
  unfold IntOp.cmpi
  dsimp only
  rw [show (0#32 : BitVec 32) = BitVec.ofNat 32 0 from rfl, slt_small (by omega) (by norm_num)]
  simp

theorem inside {b : ℕ} (hb : b < 256) :
    IntOp.andi (IntOp.cmpi .sge (BitVec.ofNat 32 b) 0#32) (IntOp.cmpi .sle (BitVec.ofNat 32 b) 255#32) = 1#1 := by
  unfold IntOp.cmpi
  dsimp only
  have h1 : (0#32 : BitVec 32).sle (BitVec.ofNat 32 b) = true := by
    show decide ((BitVec.ofNat 32 0).toInt ≤ (BitVec.ofNat 32 b).toInt) = true
    rw [toInt_small (n := b) (by omega), toInt_small (n := 0) (by norm_num)]; simp
  have h2 : (BitVec.ofNat 32 b).sle 255#32 = true := by
    rw [BitVec.sle, toInt_small (by omega), show (255#32 : BitVec 32) = BitVec.ofNat 32 255 from rfl, toInt_small (by norm_num)]
    simp; omega
  rw [h1, h2]
  decide

/-- The first take's starts: the bucket numbers, a negative one moved up by 256. -/
noncomputable def starts (k : S524288.Idx → BitVec 32) : S524288x1x1.Idx → BitVec 32 :=
  shapeCast _ (select (cmpi .slt (broadcastInDim S524288x1 ![0] bcast_S524288_S524288x1_0 k) (broadcastInDim S524288x1 ![] bcast_S_S524288x1 (constantI S_ 32 0#32)))
    (addi (broadcastInDim S524288x1 ![0] bcast_S524288_S524288x1_0 k) (broadcastInDim S524288x1 ![] bcast_S_S524288x1 (constantI S_ 32 256#32)))
    (broadcastInDim S524288x1 ![0] bcast_S524288_S524288x1_0 k)) shapeCasts_S524288x1_S524288x1x1

/-- The second take's starts. -/
noncomputable def starts' (k : S524288.Idx → BitVec 32) : S524288x1.Idx → BitVec 32 :=
  broadcastInDim S524288x1 ![0] bcast_S524288_S524288x1_0
    (select (cmpi .slt k (broadcastInDim S524288 ![] bcast_S_S524288 (constantI S_ 32 0#32)))
      (addi k (broadcastInDim S524288 ![] bcast_S_S524288 (constantI S_ 32 256#32))) k)

/-- The numbers of a table of buckets: one below 256 at every position. -/
def Buckets (k : S524288.Idx → BitVec 32) (b : Fin 524288 → Fin 256) : Prop := ∀ j, k (ix1 j) = BitVec.ofNat 32 (b j).val

theorem starts_apply {k : S524288.Idx → BitVec 32} {b : Fin 524288 → Fin 256} (hk : Buckets k b) (j : Fin 524288) :
    starts k (ix3 j 0 0) = BitVec.ofNat 32 (b j).val := by
  have h : starts k (ix3 j 0 0) = Scalar.select (IntOp.cmpi .slt (k (ix1 j)) 0#32) (IntOp.addi (k (ix1 j)) 256#32) (k (ix1 j)) := by
    pointwise [starts]
  rw [h, hk, not_neg (b j).isLt]
  rfl

theorem starts'_apply {k : S524288.Idx → BitVec 32} {b : Fin 524288 → Fin 256} (hk : Buckets k b) (j : Fin 524288) :
    starts' k (ix2 j 0) = BitVec.ofNat 32 (b j).val := by
  have h : starts' k (ix2 j 0) = Scalar.select (IntOp.cmpi .slt (k (ix1 j)) 0#32) (IntOp.addi (k (ix1 j)) 256#32) (k (ix1 j)) := by
    pointwise [starts']
  rw [h, hk, not_neg (b j).isLt]
  rfl

/-- The first take read at a row: the row's entry at the number its start holds. -/
theorem take_row (y : S524288x256.Idx → EReal) (i : S524288x1x1.Idx → BitVec 32) (j : Fin 524288) (b : Fin 256)
    (hi : i (ix3 j 0 0) = BitVec.ofNat 32 b.val) :
    Host.gather gather_S524288x256_S524288x1x1_S524288x1_n_1_0_0_1_2_11 y i (ix2 j 0) = y (ix2 j b) := by
  set d := gather_S524288x256_S524288x1x1_S524288x1_n_1_0_0_1_2_11 with hd
  have m1 : (1 : Fin 2) ∈ d.startIndexMap := List.mem_singleton.mpr rfl
  have m0 : (0 : Fin 2) ∈ d.operandBatchingDims := List.mem_singleton.mpr rfl
  have c1 : (1 : Fin 2) ∈ d.collapsedSliceDims := List.mem_singleton.mpr rfl
  have n1 : (1 : Fin 2) ∉ d.operandBatchingDims := fun h => absurd (List.mem_singleton.mp h) (by decide)
  unfold Host.gather
  refine congrArg y (funext fun a => Fin.ext ?_)
  show d.start (ix2 j 0) i a + d.batchCoord (ix2 j 0) a + d.offCoord (ix2 j 0) a = _
  match a with
  | ⟨0, _⟩ =>
    show d.start (ix2 j 0) i 0 + d.batchCoord (ix2 j 0) 0 + d.offCoord (ix2 j 0) 0 = j.val
    rw [GatherDims.start_batching _ _ _ _ m0, GatherDims.offCoord_eq_zero _ _ _ fun h => ((GatherDims.mem_sKept _ _).mp h).2 m0]
    unfold GatherDims.batchCoord
    rw [dif_pos m0, Nat.zero_add, Nat.add_zero]
    rfl
  | ⟨1, _⟩ =>
    show d.start (ix2 j 0) i 1 + d.batchCoord (ix2 j 0) 1 + d.offCoord (ix2 j 0) 1 = b.val
    rw [GatherDims.batchCoord_eq_zero _ _ _ n1, GatherDims.offCoord_eq_zero _ _ _ fun h => ((GatherDims.mem_sKept _ _).mp h).1 c1]
    unfold GatherDims.start
    rw [dif_pos m1]
    have hs : d.siIdx (ix2 j 0) ⟨List.idxOf (1 : Fin 2) d.startIndexMap, List.idxOf_lt_length_iff.2 m1⟩ = ix3 j 0 0 := by
      funext e
      refine Fin.ext ?_
      match e with
      | ⟨0, _⟩ => rfl
      | ⟨1, _⟩ => rfl
      | ⟨2, _⟩ => rfl
    rw [hs, hi]
    show min (BitVec.ofNat 32 b.val).toInt.toNat 255 + 0 + 0 = b.val
    rw [toInt_small (by omega), Int.toNat_natCast]
    omega

/-- The first take with its guard: out of range gives the fallback. -/
noncomputable def taken (x : S524288x256.Idx → EReal) (k : S524288.Idx → BitVec 32) : S524288x1.Idx → EReal :=
  select (Host.reduce IntOp.andi (andi (cmpi .sge (starts k) (broadcastInDim S524288x1x1 ![] bcast_S_S524288x1x1 (constantI S_ 32 0#32)))
      (cmpi .sle (starts k) (broadcastInDim S524288x1x1 ![0, 1, 2] bcast_S1x1x1_S524288x1x1_0_1_2 (broadcastInDim S1x1x1 ![2] bcast_S1_S1x1x1_2 (constantI S1 32 255#32)))))
      (constantI S_ 1 1#1) reducesTo_S524288x1x1_S524288x1_d2 h_S_)
    (Host.gather gather_S524288x256_S524288x1x1_S524288x1_n_1_0_0_1_2_11 (logp x) (starts k))
    (broadcastInDim S524288x1 ![] bcast_S_S524288x1 (constant (F := Ideal) S_ .f32 0x7FC00000#32))

/-- The widths of the buckets. -/
noncomputable def width : S256.Idx → EReal :=
  subf (F := Ideal) (φ := .f32) (extractStridedSlice S256 ![1] grid slices_S257_S256_1) (extractStridedSlice S256 ![0] grid slices_S257_S256_0)

/-- The second take with its guard. -/
noncomputable def taken' (k : S524288.Idx → BitVec 32) : S524288.Idx → EReal :=
  select (Host.reduce IntOp.andi (andi (cmpi .sge (starts' k) (broadcastInDim S524288x1 ![] bcast_S_S524288x1 (constantI S_ 32 0#32)))
      (cmpi .sle (starts' k) (broadcastInDim S524288x1 ![0, 1] bcast_S1x1_S524288x1_0_1 (broadcastInDim S1x1 ![1] bcast_S1_S1x1_1 (constantI S1 32 255#32)))))
      (constantI S_ 1 1#1) reducesTo_S524288x1_S524288_d1 h_S_)
    (Host.gather gather_S256_S524288x1_S524288_n_0_n_n_0_1_1 width (starts' k))
    (broadcastInDim S524288 ![] bcast_S_S524288 (constant (F := Ideal) S_ .f32 0x7FC00000#32))

theorem width_apply (b : Fin 256) : width (ix1 b) = ((1 / 32 : ℝ) : EReal) := by
  have h : width (ix1 b) = grid (ix1 ⟨1 + b.val, by omega⟩) - grid (ix1 ⟨b.val, by omega⟩) := by
    pointwise [width]
  rw [h, grid_apply, grid_apply, ← EReal.coe_sub]
  congr 1
  unfold border
  push_cast
  ring

theorem taken_apply (x : S524288x256.Idx → EReal) {k : S524288.Idx → BitVec 32} {b : Fin 524288 → Fin 256} (hk : Buckets k b)
    (j : Fin 524288) : taken x k (ix2 j 0) = logp x (ix2 j (b j)) := by
  unfold taken
  rw [ValueIdx.select_apply, Host.reduce_andi_one _ _ _ _ _ rfl fun i => ?_, ValueIdx.select_one,
    take_row _ _ j (b j) (starts_apply hk j)]
  obtain ⟨r, hr⟩ : ∃ r : Fin 524288, i = ix3 r 0 0 := ⟨i 0, by
    funext a
    match a with
    | ⟨0, _⟩ => rfl
    | ⟨1, _⟩ => exact Subsingleton.elim (α := Fin 1) _ _
    | ⟨2, _⟩ => exact Subsingleton.elim (α := Fin 1) _ _⟩
  rw [hr]
  show IntOp.andi (IntOp.cmpi .sge (starts k (ix3 r 0 0)) 0#32) (IntOp.cmpi .sle (starts k (ix3 r 0 0)) 255#32) = 1#1
  rw [starts_apply hk, inside (b r).isLt]

theorem taken'_apply {k : S524288.Idx → BitVec 32} {b : Fin 524288 → Fin 256} (hk : Buckets k b) (j : Fin 524288) :
    taken' k (ix1 j) = ((1 / 32 : ℝ) : EReal) := by
  have hg : Host.gather gather_S256_S524288x1_S524288_n_0_n_n_0_1_1 width (starts' k) (ix1 j) = width (ix1 (b j)) :=
    Routing.gather_take1 (N := 256) (n := 524288) gather_S256_S524288x1_S524288_n_0_n_n_0_1_1 rfl rfl rfl rfl width (starts' k) j (b j)
      (starts'_apply hk j) (by norm_num)
  unfold taken'
  rw [ValueIdx.select_apply, Host.reduce_andi_one _ _ _ _ _ rfl fun i => ?_, ValueIdx.select_one,
    hg, width_apply]
  obtain ⟨r, hr⟩ : ∃ r : Fin 524288, i = ix2 r 0 := ⟨i 0, by
    funext a
    match a with
    | ⟨0, _⟩ => rfl
    | ⟨1, _⟩ => exact Subsingleton.elim (α := Fin 1) _ _⟩
  rw [hr]
  show IntOp.andi (IntOp.cmpi .sge (starts' k (ix2 r 0)) 0#32) (IntOp.cmpi .sle (starts' k (ix2 r 0)) 255#32) = 1#1
  rw [starts'_apply hk, inside (b r).isLt]

/-! ## The result -/

/-- The reference's result from its two arguments. -/
noncomputable def result (x : S524288x256.Idx → EReal) (v : S524288.Idx → EReal) : S524288.Idx → EReal :=
  subf (F := Ideal) (φ := .f32) (shapeCast _ (taken x (idx v)) shapeCasts_S524288x1_S524288)
    (Host.log (F := Ideal) (φ := .f32) (taken' (idx v)))

theorem result_apply (x : S524288x256.Idx → EReal) (v : S524288.Idx → EReal) (j : Fin 524288) :
    result x v (ix1 j) = x (ix2 j ⟨bucket (v (ix1 j)), bucket_lt _⟩) - Ideal.log (∑ l : Fin 256, Ideal.exp (x (ix2 j l)))
      - Ideal.log ((1 / 32 : ℝ) : EReal) := by
  have hk : Buckets (idx v) fun j => ⟨bucket (v (ix1 j)), bucket_lt _⟩ := fun j => idx_apply v j
  have h : result x v (ix1 j) = taken x (idx v) (ix2 j 0) - Ideal.log (taken' (idx v) (ix1 j)) := by
    pointwise [result]
  rw [h, taken_apply x hk, taken'_apply hk, logp_apply]

/-- The term of the reference's run is the result from its arguments. -/
theorem res_eq (m : (ℓ : Loc nD τ sig) → Buf (Elt Ideal) ℓ) (c : Dev nD) :
    Cert.ReferenceIdeal.Value.res_out0 (F := Ideal) m c
      = result (m ((c.tc : Thread nD τ).loc main_arg0)) (m ((c.tc : Thread nD τ).loc main_arg1)) := by
  unfold Cert.ReferenceIdeal.Value.res_out0 Cert.ReferenceIdeal.Value.res_main_v20
  unfold result taken taken' starts starts' width logp total shifted top idx cnt grid inner frac
  rfl

end Cert.Proof.Ref

end
-- ==== Proof.Final.lean ====
/-
  The kernel's result, read at a position, and the equation between the two programs' results.
-/
module

public import proofs.«01_k».proof.Proof.Value
public import proofs.«01_k».proof.Proof.Ref

@[expose] public section

namespace Cert.Proof.Math
open Idealize.ShloMosaic Cert.KernelIdeal Cert.KernelIdeal.Gen Cert.Proof.Buckets

/-- The column of bucket numbers at a row. -/
theorem bucketCol_apply (v : S524288.Idx → EReal) (j : Fin 524288) :
    bucketCol (F := Ideal) v (ix2 j 0) = BitVec.ofNat 32 (bucket (v (ix1 j))) := by
  have h : bucketCol (F := Ideal) v (ix2 j 0) = buckets (F := Ideal) v (ix1 j) := by
    unfold bucketCol
    pointwise
  rw [h]
  exact bk_eq _

/-- A row's block and its place in the block give the row back. -/
theorem row_div_mod (j : Fin 524288) (h : j.val / 8192 < 64) (h' : j.val % 8192 < 8192) :
    row ⟨j.val / 8192, h⟩ ⟨j.val % 8192, h'⟩ = j :=
  Fin.ext (show j.val / 8192 * 8192 + j.val % 8192 = j.val by omega)

/-- The dense result at a row, from a column that holds the buckets of the values. -/
theorem dense_apply (x : S524288x256.Idx → EReal) (k : S524288x1.Idx → BitVec 32) (j : Fin 524288) (v : EReal)
    (hk : k (ix2 j 0) = BitVec.ofNat 32 (bucket v)) :
    dense (F := Ideal) x k (ix2 j 0) = score (fun l => x (ix2 j l)) v := by
  have hq : j.val / 8192 < 64 := by omega
  have hr : j.val % 8192 < 8192 := Nat.mod_lt _ (by norm_num)
  have h0 : ∀ l : Fin 256, rows0 (F := Ideal) x ⟨j.val / 8192, hq⟩ (ix2 ⟨j.val % 8192, hr⟩ l) = x (ix2 j l) := fun l => by
    unfold rows0
    refine congrArg x (funext fun a => ?_)
    match a with
    | ⟨0, _⟩ => exact row_div_mod j hq hr
    | ⟨1, _⟩ => rfl
  have h1 : rows1 k ⟨j.val / 8192, hq⟩ (ix2 ⟨j.val % 8192, hr⟩ 0) = k (ix2 j 0) := by
    unfold rows1
    refine congrArg k (funext fun a => ?_)
    match a with
    | ⟨0, _⟩ => exact row_div_mod j hq hr
    | ⟨1, _⟩ => rfl
  have e : dense (F := Ideal) x k (ix2 j 0)
      = k1_pay1 (F := Ideal) (rows0 (F := Ideal) x ⟨j.val / 8192, hq⟩) (rows1 k ⟨j.val / 8192, hq⟩) (ix2 ⟨j.val % 8192, hr⟩ 0) := by
    unfold dense
    refine congrArg (k1_pay1 (F := Ideal) (rows0 (F := Ideal) x ⟨j.val / 8192, hq⟩) (rows1 k ⟨j.val / 8192, hq⟩)) (funext fun a => ?_)
    match a with
    | ⟨0, _⟩ => rfl
    | ⟨1, _⟩ => rfl
  rw [e, k1_score _ _ _ v (h1.trans hk)]
  simp only [h0]

/-- The kernel's result at a position. -/
theorem output_apply (x : S524288x256.Idx → EReal) (v : S524288.Idx → EReal) (j : Fin 524288) :
    output (F := Ideal) x v (ix1 j) = score (fun l => x (ix2 j l)) (v (ix1 j)) := by
  have h : output (F := Ideal) x v (ix1 j) = dense (F := Ideal) x (bucketCol (F := Ideal) v) (ix2 j 0) := by
    unfold output
    pointwise
  rw [h]
  exact dense_apply x _ j _ (bucketCol_apply v j)

/-- THE EQUATION: the kernel's result is the reference's. -/
theorem output_eq (x : S524288x256.Idx → EReal) (v : S524288.Idx → EReal) :
    (output (F := Ideal) x v : S524288.Idx → EReal) = Cert.Proof.Ref.result x v := by
  funext i
  obtain ⟨j, rfl⟩ : ∃ j : Fin 524288, i = ix1 j := ⟨i 0, by
    funext a
    match a with
    | ⟨0, _⟩ => rfl⟩
  rw [output_apply]
  exact (Cert.Proof.Ref.result_apply x v j).symm

end Cert.Proof.Math

end
-- ==== Proof.lean ====
/-
  The proof of `Cert.Claim` (proofs.«01_k».proof.Defs): the three programs run with their arguments unchanged and every
  counter at zero, the ideal kernel is the kernel's own text, and over the extended reals the kernel and the reference
  compute the same array. The run is Proof/Run.lean's, the equation of the results Proof/Final.lean's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Same
public import proofs.«01_k».proof.Proof.Final
public import Idealize.ShloMosaic.Adequacy
public import Idealize.ShloMosaic.Init

@[expose] public section

noncomputable section

namespace Cert.Proof

open Idealize.ShloMosaic Idealize.SL.Sem

/-- The kernel's run over any float values, read at the arguments and the counters. -/
theorem frame_any {F : FTy → Type} [FloatOps F] [∀ e, Nonempty (Elt F e)]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (Cert.KernelIdeal.threads (F := F)) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => (h.1 c).2, h.2⟩) (Cert.Proof.Buckets.run_main (F := F) m ρ)

/-- The kernel on the bits: its text is the ideal kernel's. -/
theorem frame_kernel : Cert.quiescent_Kernel := by
  intro m ρ _
  rw [defs_eq]
  exact frame_any (F := Bits) m ρ

/-- The kernel on the extended reals: the same run. -/
theorem frame_ideal : Cert.quiescent_KernelIdeal := fun m ρ _ => frame_any (F := Ideal) m ρ

/-- The reference's run; it declares no semaphore. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Kernel and reference compute the same array from the same arguments: the reference's result. -/
theorem algebraic : Cert.algebraic_KernelIdeal_ReferenceIdeal := by
  intro m ρ m' ρ' _ hagree
  refine ⟨fun c => Cert.Proof.Ref.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun _ h c => ⟨(h.1 c).1.trans (Cert.Proof.Math.output_eq _ _), (h.1 c).2⟩) (Cert.Proof.Buckets.run_main (F := Ideal) m ρ)
  · refine (θ_run Cert.ReferenceIdeal.defs _ _).mono (fun _ h c => ⟨(h c).1.trans ?_, (h c).2⟩)
      (Cert.ReferenceIdeal.Value.run (F := Ideal) m' ρ')
    refine (Cert.Proof.Ref.res_eq m' c).trans ?_
    rw [(hagree c).1, (hagree c).2]

theorem claim : Cert.Claim := ⟨Cert.Kernel.Gen.facts, Cert.KernelIdeal.Gen.facts, Cert.ReferenceIdeal.Gen.facts,
  frame_kernel, frame_ideal, frame_reference, trivial, algebraic⟩

end Cert.Proof

end
